-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S4096 : Shape := ⟨1, ![4096]⟩
abbrev S16 : Shape := ⟨1, ![16]⟩
abbrev S_ : Shape := ⟨0, ![]⟩
abbrev S1x4096 : Shape := ⟨2, ![1, 4096]⟩
abbrev S8 : Shape := ⟨1, ![8]⟩
abbrev S4 : Shape := ⟨1, ![4]⟩
abbrev S2 : Shape := ⟨1, ![2]⟩
abbrev S1 : Shape := ⟨1, ![1]⟩
abbrev S1x16 : Shape := ⟨2, ![1, 16]⟩
abbrev S1x1x96 : Shape := ⟨3, ![1, 1, 96]⟩
abbrev S96x32768 : Shape := ⟨2, ![96, 32768]⟩
abbrev S96 : Shape := ⟨1, ![96]⟩
abbrev S96x1 : Shape := ⟨2, ![96, 1]⟩
abbrev S1x1x1 : Shape := ⟨3, ![1, 1, 1]⟩

abbrev nBuf : Table → Nat
  | .hbm => 4
  | .local .tc .vmem => 3
  | .local .tc .smem => 1
  | .local .scVector .vmem => 10
  | _ => 0

abbrev bufTy : (tb : Table) → Fin (nBuf tb) → BufTy
  | .hbm, ⟨0, _⟩ => ⟨S128x32768, .f32⟩
  | .hbm, ⟨1, _⟩ => ⟨S128x32768, .f32⟩
  | .hbm, ⟨2, _⟩ => ⟨S1x1x96, .i32⟩
  | .hbm, ⟨3, _⟩ => ⟨S128x32768, .f32⟩
  | .local .tc .vmem, ⟨0, _⟩ => ⟨S96x32768, .f32⟩
  | .local .tc .vmem, ⟨1, _⟩ => ⟨S1x1x96, .i32⟩
  | .local .tc .vmem, ⟨2, _⟩ => ⟨S96x32768, .f32⟩
  | .local .tc .smem, ⟨0, _⟩ => ⟨S1x1x96, .i32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S4096, .f32⟩
  | .local .scVector .vmem, ⟨6, _⟩ => ⟨S4096, .f32⟩
  | .local .scVector .vmem, ⟨7, _⟩ => ⟨S4096, .f32⟩
  | .local .scVector .vmem, ⟨8, _⟩ => ⟨S4096, .f32⟩
  | .local .scVector .vmem, ⟨9, _⟩ => ⟨S16, .f32⟩
  | _, _ => ⟨S128x32768, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg1_0 : Ref sig .tc := ⟨.vmem, 1, rfl⟩
abbrev cc2_stg1_0 : Ref sig .tc := ⟨.vmem, 2, rfl⟩
abbrev cc2_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 10
abbrev cc1_sem1_0 : DmaSem sig := 11
abbrev cc2_sem0_0 : DmaSem sig := 12
abbrev cc2_sem1_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c0_i32 : BitVec 32 := 0#32
  ![v2.toNat, 0]
def k0_off2 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c4096_i32 : BitVec 32 := 4096#32
  ![v2.toNat, 4096]
def k0_off3 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c8192_i32 : BitVec 32 := 8192#32
  ![v2.toNat, 8192]
def k0_off4 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c12288_i32 : BitVec 32 := 12288#32
  ![v2.toNat, 12288]
def k0_off5 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c16384_i32 : BitVec 32 := 16384#32
  ![v2.toNat, 16384]
def k0_off6 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c20480_i32 : BitVec 32 := 20480#32
  ![v2.toNat, 20480]
def k0_off7 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c24576_i32 : BitVec 32 := 24576#32
  ![v2.toNat, 24576]
def k0_off8 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c28672_i32 : BitVec 32 := 28672#32
  ![v2.toNat, 28672]
@[reducible] def k0_t1_loop : Scf.Loop 32 :=
  let c0_i32_9 : BitVec 32 := 0#32
  let c256_i32 : BitVec 32 := 256#32
  let v36 : BitVec 32 := Scalar.addi c0_i32_9 c256_i32
  let c1_i32 : BitVec 32 := 1#32
  ⟨c0_i32_9, v36, c1_i32⟩
def k0_off9 (k0_t1 : Fin k0_t1_loop.trips) : Fin 1 → Nat :=
  let c0_i32_9 : BitVec 32 := 0#32
  let c1_i32 : BitVec 32 := 1#32
  let arg24 : BitVec 32 := Scf.iv c0_i32_9 c1_i32 k0_t1
  let c16_i32_93 : BitVec 32 := 16#32
  let v278 : BitVec 32 := Scalar.muli arg24 c16_i32_93
  let v279 : Index := Scalar.indexCast v278
  ![v279.toNat]
@[reducible] def k0_t2_loop : Scf.Loop 32 :=
  let c0_i32_30 : BitVec 32 := 0#32
  let c128_i32 : BitVec 32 := 128#32
  let v78 : BitVec 32 := Scalar.addi c0_i32_30 c128_i32
  let c1_i32_31 : BitVec 32 := 1#32
  ⟨c0_i32_30, v78, c1_i32_31⟩
def k0_off10 (k0_t2 : Fin k0_t2_loop.trips) : Fin 1 → Nat :=
  let c0_i32_30 : BitVec 32 := 0#32
  let c1_i32_31 : BitVec 32 := 1#32
  let arg24 : BitVec 32 := Scf.iv c0_i32_30 c1_i32_31 k0_t2
  let c32_i32_94 : BitVec 32 := 32#32
  let v282 : BitVec 32 := Scalar.muli arg24 c32_i32_94
  let v283 : Index := Scalar.indexCast v282
  ![v283.toNat]
def k0_off11 (k0_t2 : Fin k0_t2_loop.trips) : Fin 1 → Nat :=
  let c0_i32_30 : BitVec 32 := 0#32
  let c1_i32_31 : BitVec 32 := 1#32
  let arg24 : BitVec 32 := Scf.iv c0_i32_30 c1_i32_31 k0_t2
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t3_loop : Scf.Loop 32 :=
  let c0_i32_35 : BitVec 32 := 0#32
  let c128_i32_36 : BitVec 32 := 128#32
  let v84 : BitVec 32 := Scalar.addi c0_i32_35 c128_i32_36
  let c1_i32_37 : BitVec 32 := 1#32
  ⟨c0_i32_35, v84, c1_i32_37⟩
def k0_off12 (k0_t3 : Fin k0_t3_loop.trips) : Fin 1 → Nat :=
  let c0_i32_35 : BitVec 32 := 0#32
  let c1_i32_37 : BitVec 32 := 1#32
  let arg24 : BitVec 32 := Scf.iv c0_i32_35 c1_i32_37 k0_t3
  let c32_i32_94 : BitVec 32 := 32#32
  let v282 : BitVec 32 := Scalar.muli arg24 c32_i32_94
  let v283 : Index := Scalar.indexCast v282
  ![v283.toNat]
def k0_off13 (k0_t3 : Fin k0_t3_loop.trips) : Fin 1 → Nat :=
  let c0_i32_35 : BitVec 32 := 0#32
  let c1_i32_37 : BitVec 32 := 1#32
  let arg24 : BitVec 32 := Scf.iv c0_i32_35 c1_i32_37 k0_t3
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t4_loop : Scf.Loop 32 :=
  let c0_i32_41 : BitVec 32 := 0#32
  let c128_i32_42 : BitVec 32 := 128#32
  let v90 : BitVec 32 := Scalar.addi c0_i32_41 c128_i32_42
  let c1_i32_43 : BitVec 32 := 1#32
  ⟨c0_i32_41, v90, c1_i32_43⟩
def k0_off14 (k0_t4 : Fin k0_t4_loop.trips) : Fin 1 → Nat :=
  let c0_i32_41 : BitVec 32 := 0#32
  let c1_i32_43 : BitVec 32 := 1#32
  let arg24 : BitVec 32 := Scf.iv c0_i32_41 c1_i32_43 k0_t4
  let c32_i32_94 : BitVec 32 := 32#32
  let v282 : BitVec 32 := Scalar.muli arg24 c32_i32_94
  let v283 : Index := Scalar.indexCast v282
  ![v283.toNat]
def k0_off15 (k0_t4 : Fin k0_t4_loop.trips) : Fin 1 → Nat :=
  let c0_i32_41 : BitVec 32 := 0#32
  let c1_i32_43 : BitVec 32 := 1#32
  let arg24 : BitVec 32 := Scf.iv c0_i32_41 c1_i32_43 k0_t4
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t5_loop : Scf.Loop 32 :=
  let c0_i32_47 : BitVec 32 := 0#32
  let c128_i32_48 : BitVec 32 := 128#32
  let v96 : BitVec 32 := Scalar.addi c0_i32_47 c128_i32_48
  let c1_i32_49 : BitVec 32 := 1#32
  ⟨c0_i32_47, v96, c1_i32_49⟩
def k0_off16 (k0_t5 : Fin k0_t5_loop.trips) : Fin 1 → Nat :=
  let c0_i32_47 : BitVec 32 := 0#32
  let c1_i32_49 : BitVec 32 := 1#32
  let arg24 : BitVec 32 := Scf.iv c0_i32_47 c1_i32_49 k0_t5
  let c32_i32_94 : BitVec 32 := 32#32
  let v282 : BitVec 32 := Scalar.muli arg24 c32_i32_94
  let v283 : Index := Scalar.indexCast v282
  ![v283.toNat]
def k0_off17 (k0_t5 : Fin k0_t5_loop.trips) : Fin 1 → Nat :=
  let c0_i32_47 : BitVec 32 := 0#32
  let c1_i32_49 : BitVec 32 := 1#32
  let arg24 : BitVec 32 := Scf.iv c0_i32_47 c1_i32_49 k0_t5
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t6_loop : Scf.Loop 32 :=
  let c0_i32_53 : BitVec 32 := 0#32
  let c128_i32_54 : BitVec 32 := 128#32
  let v102 : BitVec 32 := Scalar.addi c0_i32_53 c128_i32_54
  let c1_i32_55 : BitVec 32 := 1#32
  ⟨c0_i32_53, v102, c1_i32_55⟩
def k0_off18 (k0_t6 : Fin k0_t6_loop.trips) : Fin 1 → Nat :=
  let c0_i32_53 : BitVec 32 := 0#32
  let c1_i32_55 : BitVec 32 := 1#32
  let arg24 : BitVec 32 := Scf.iv c0_i32_53 c1_i32_55 k0_t6
  let c32_i32_94 : BitVec 32 := 32#32
  let v282 : BitVec 32 := Scalar.muli arg24 c32_i32_94
  let v283 : Index := Scalar.indexCast v282
  ![v283.toNat]
def k0_off19 (k0_t6 : Fin k0_t6_loop.trips) : Fin 1 → Nat :=
  let c0_i32_53 : BitVec 32 := 0#32
  let c1_i32_55 : BitVec 32 := 1#32
  let arg24 : BitVec 32 := Scf.iv c0_i32_53 c1_i32_55 k0_t6
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t7_loop : Scf.Loop 32 :=
  let c0_i32_59 : BitVec 32 := 0#32
  let c128_i32_60 : BitVec 32 := 128#32
  let v108 : BitVec 32 := Scalar.addi c0_i32_59 c128_i32_60
  let c1_i32_61 : BitVec 32 := 1#32
  ⟨c0_i32_59, v108, c1_i32_61⟩
def k0_off20 (k0_t7 : Fin k0_t7_loop.trips) : Fin 1 → Nat :=
  let c0_i32_59 : BitVec 32 := 0#32
  let c1_i32_61 : BitVec 32 := 1#32
  let arg24 : BitVec 32 := Scf.iv c0_i32_59 c1_i32_61 k0_t7
  let c32_i32_94 : BitVec 32 := 32#32
  let v282 : BitVec 32 := Scalar.muli arg24 c32_i32_94
  let v283 : Index := Scalar.indexCast v282
  ![v283.toNat]
def k0_off21 (k0_t7 : Fin k0_t7_loop.trips) : Fin 1 → Nat :=
  let c0_i32_59 : BitVec 32 := 0#32
  let c1_i32_61 : BitVec 32 := 1#32
  let arg24 : BitVec 32 := Scf.iv c0_i32_59 c1_i32_61 k0_t7
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t8_loop : Scf.Loop 32 :=
  let c0_i32_65 : BitVec 32 := 0#32
  let c128_i32_66 : BitVec 32 := 128#32
  let v114 : BitVec 32 := Scalar.addi c0_i32_65 c128_i32_66
  let c1_i32_67 : BitVec 32 := 1#32
  ⟨c0_i32_65, v114, c1_i32_67⟩
def k0_off22 (k0_t8 : Fin k0_t8_loop.trips) : Fin 1 → Nat :=
  let c0_i32_65 : BitVec 32 := 0#32
  let c1_i32_67 : BitVec 32 := 1#32
  let arg24 : BitVec 32 := Scf.iv c0_i32_65 c1_i32_67 k0_t8
  let c32_i32_94 : BitVec 32 := 32#32
  let v282 : BitVec 32 := Scalar.muli arg24 c32_i32_94
  let v283 : Index := Scalar.indexCast v282
  ![v283.toNat]
def k0_off23 (k0_t8 : Fin k0_t8_loop.trips) : Fin 1 → Nat :=
  let c0_i32_65 : BitVec 32 := 0#32
  let c1_i32_67 : BitVec 32 := 1#32
  let arg24 : BitVec 32 := Scf.iv c0_i32_65 c1_i32_67 k0_t8
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
@[reducible] def k0_t9_loop : Scf.Loop 32 :=
  let c0_i32_71 : BitVec 32 := 0#32
  let c128_i32_72 : BitVec 32 := 128#32
  let v120 : BitVec 32 := Scalar.addi c0_i32_71 c128_i32_72
  let c1_i32_73 : BitVec 32 := 1#32
  ⟨c0_i32_71, v120, c1_i32_73⟩
def k0_off24 (k0_t9 : Fin k0_t9_loop.trips) : Fin 1 → Nat :=
  let c0_i32_71 : BitVec 32 := 0#32
  let c1_i32_73 : BitVec 32 := 1#32
  let arg24 : BitVec 32 := Scf.iv c0_i32_71 c1_i32_73 k0_t9
  let c32_i32_94 : BitVec 32 := 32#32
  let v282 : BitVec 32 := Scalar.muli arg24 c32_i32_94
  let v283 : Index := Scalar.indexCast v282
  ![v283.toNat]
def k0_off25 (k0_t9 : Fin k0_t9_loop.trips) : Fin 1 → Nat :=
  let c0_i32_71 : BitVec 32 := 0#32
  let c1_i32_73 : BitVec 32 := 1#32
  let arg24 : BitVec 32 := Scf.iv c0_i32_71 c1_i32_73 k0_t9
  let c32_i32_95 : BitVec 32 := 32#32
  let v286 : BitVec 32 := Scalar.muli arg24 c32_i32_95
  let c16_i32_96 : BitVec 32 := 16#32
  let v287 : BitVec 32 := Scalar.addi v286 c16_i32_96
  let v288 : Index := Scalar.indexCast v287
  ![v288.toNat]
def k0_mult1 (v226 : BitVec 32) : BitVec 32 :=
  let c_m16_i32 : BitVec 32 := 4294967280#32
  let v228 : BitVec 32 := Scalar.andi v226 c_m16_i32
  v228

def k0_off26 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c0_i32_77 : BitVec 32 := 0#32
  ![v2.toNat, 0]
def k0_off27 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c4096_i32_79 : BitVec 32 := 4096#32
  ![v2.toNat, 4096]
def k0_off28 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c8192_i32_81 : BitVec 32 := 8192#32
  ![v2.toNat, 8192]
def k0_off29 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c12288_i32_83 : BitVec 32 := 12288#32
  ![v2.toNat, 12288]
def k0_off30 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c16384_i32_85 : BitVec 32 := 16384#32
  ![v2.toNat, 16384]
def k0_off31 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c20480_i32_87 : BitVec 32 := 20480#32
  ![v2.toNat, 20480]
def k0_off32 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c24576_i32_89 : BitVec 32 := 24576#32
  ![v2.toNat, 24576]
def k0_off33 (i : grid0.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c28672_i32_91 : BitVec 32 := 28672#32
  ![v2.toNat, 28672]
def k0_off34 (i : grid0.Coords) (v226 : BitVec 32) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c96_i32 v1
  let c_m16_i32 : BitVec 32 := 4294967280#32
  let v228 : BitVec 32 := Scalar.andi v226 c_m16_i32
  let v229 : BitVec 32 := v228
  ![v2.toNat, v229.toNat]

def k0_chk1 (i : grid0.Coords) (v226 : BitVec 32) : Prop :=
  (16 ∣ (k0_mult1 v226).toNat) ∧
  (∀ a, (k0_off34 i v226) a + S1x16.size a ≤ S128x32768.size a)
theorem k0_mult1_dvd : ∀ (i : grid0.Coords) (v226 : BitVec 32) (k0_hw1 : k0_chk1 i v226), 16 ∣ (k0_mult1 v226).toNat := fun i v226 k0_hw1 => k0_hw1.1
theorem k0_off34_inb : ∀ (i : grid0.Coords) (v226 : BitVec 32) (k0_hw1 : k0_chk1 i v226), ∀ a, (k0_off34 i v226) a + S1x16.size a ≤ S128x32768.size a := fun i v226 k0_hw1 => k0_hw1.2

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S96x32768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1x96 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev grid2 : Pipeline.Grid := ⟨1, ![1], ![false]⟩

def k2_off1 (i : grid2.Coords) : Fin 3 → Nat :=
  let arg0 : BitVec 32 := BitVec.ofNat 32 (i 0).val
  let v1 : Index := Scalar.indexCast arg0
  let c0 : Index := 0#32
  let c0_0 : Index := 0#32
  ![v1.toNat, 0, 0]
def k2_off2 (i : grid2.Coords) : Fin 3 → Nat :=
  let arg0 : BitVec 32 := BitVec.ofNat 32 (i 0).val
  let v3 : Index := Scalar.indexCast arg0
  let c0_1 : Index := 0#32
  let c1 : Index := 1#32
  ![v3.toNat, 0, 1]
def k2_off3 (i : grid2.Coords) : Fin 3 → Nat :=
  let arg0 : BitVec 32 := BitVec.ofNat 32 (i 0).val
  let v5 : Index := Scalar.indexCast arg0
  let c0_2 : Index := 0#32
  let c2 : Index := 2#32
  ![v5.toNat, 0, 2]
def k2_off4 (i : grid2.Coords) : Fin 3 → Nat :=
  let arg0 : BitVec 32 := BitVec.ofNat 32 (i 0).val
  let v7 : Index := Scalar.indexCast arg0
  let c0_3 : Index := 0#32
  let c3 : Index := 3#32
  ![v7.toNat, 0, 3]
def k2_off5 (i : grid2.Coords) : Fin 3 → Nat :=
  let arg0 : BitVec 32 := BitVec.ofNat 32 (i 0).val
  let v9 : Index := Scalar.indexCast arg0
  let c0_4 : Index := 0#32
  let c4 : Index := 4#32
  ![v9.toNat, 0, 4]
def k2_off6 (i : grid2.Coords) : Fin 3 → Nat :=
  let arg0 : BitVec 32 := BitVec.ofNat 32 (i 0).val
  let v11 : Index := Scalar.indexCast arg0
  let c0_5 : Index := 0#32
  let c5 : Index := 5#32
  ![v11.toNat, 0, 5]
def k2_off7 (i : grid2.Coords) : Fin 3 → Nat :=
  let arg0 : BitVec 32 := BitVec.ofNat 32 (i 0).val
  let v13 : Index := Scalar.indexCast arg0
  let c0_6 : Index := 0#32
  let c6 : Index := 6#32
  ![v13.toNat, 0, 6]
def k2_off8 (i : grid2.Coords) : Fin 3 → Nat :=
  let arg0 : BitVec 32 := BitVec.ofNat 32 (i 0).val
  let v15 : Index := Scalar.indexCast arg0
  let c0_7 : Index := 0#32
  let c7 : Index := 7#32
  ![v15.toNat, 0, 7]
def k2_off9 (i : grid2.Coords) : Fin 3 → Nat :=
  let arg0 : BitVec 32 := BitVec.ofNat 32 (i 0).val
  let v17 : Index := Scalar.indexCast arg0
  let c0_8 : Index := 0#32
  let c8 : Index := 8#32
  ![v17.toNat, 0, 8]
def k2_off10 (i : grid2.Coords) : Fin 3 → Nat :=
  let arg0 : BitVec 32 := BitVec.ofNat 32 (i 0).val
  let v19 : Index := Scalar.indexCast arg0
  let c0_9 : Index := 0#32
  let c9 : Index := 9#32
  ![v19.toNat, 0, 9]
def k2_off11 (i : grid2.Coords) : Fin 3 → Nat :=
  let arg0 : BitVec 32 := BitVec.ofNat 32 (i 0).val
  let v21 : Index := Scalar.indexCast arg0
  let c0_10 : Index := 0#32
  let c10 : Index := 10#32
  ![v21.toNat, 0, 10]
def k2_off12 (i : grid2.Coords) : Fin 3 → Nat :=
  let arg0 : BitVec 32 := BitVec.ofNat 32 (i 0).val
  let v23 : Index := Scalar.indexCast arg0
  let c0_11 : Index := 0#32
  let c11 : Index := 11#32
  ![v23.toNat, 0, 11]
def k2_off13 (i : grid2.Coords) : Fin 3 → Nat :=
  let arg0 : BitVec 32 := BitVec.ofNat 32 (i 0).val
  let v25 : Index := Scalar.indexCast arg0
  let c0_12 : Index := 0#32
  let c12 : Index := 12#32
  ![v25.toNat, 0, 12]
def k2_off14 (i : grid2.Coords) : Fin 3 → Nat :=
  let arg0 : BitVec 32 := BitVec.ofNat 32 (i 0).val
  let v27 : Index := Scalar.indexCast arg0
  let c0_13 : Index := 0#32
  let c13 : Index := 13#32
  ![v27.toNat, 0, 13]
def k2_off15 (i : grid2.Coords) : Fin 3 → Nat :=
  let arg0 : BitVec 32 := BitVec.ofNat 32 (i 0).val
  let v29 : Index := Scalar.indexCast arg0
  let c0_14 : Index := 0#32
  let c14 : Index := 14#32
  ![v29.toNat, 0, 14]
def k2_off16 (i : grid2.Coords) : Fin 3 → Nat :=
  let arg0 : BitVec 32 := BitVec.ofNat 32 (i 0).val
  let v31 : Index := Scalar.indexCast arg0
  let c0_15 : Index := 0#32
  let c15 : Index := 15#32
  ![v31.toNat, 0, 15]
def k2_off17 (i : grid2.Coords) : Fin 3 → Nat :=
  let arg0 : BitVec 32 := BitVec.ofNat 32 (i 0).val
  let v33 : Index := Scalar.indexCast arg0
  let c0_16 : Index := 0#32
  let c16 : Index := 16#32
  ![v33.toNat, 0, 16]
def k2_off18 (i : grid2.Coords) : Fin 3 → Nat :=
  let arg0 : BitVec 32 := BitVec.ofNat 32 (i 0).val
  let v35 : Index := Scalar.indexCast arg0
  let c0_17 : Index := 0#32
  let c17 : Index := 17#32
  ![v35.toNat, 0, 17]
def k2_off19 (i : grid2.Coords) : Fin 3 → Nat :=
  let arg0 : BitVec 32 := BitVec.ofNat 32 (i 0).val
  let v37 : Index := Scalar.indexCast arg0
  let c0_18 : Index := 0#32
  let c18 : Index := 18#32
  ![v37.toNat, 0, 18]
def k2_off20 (i : grid2.Coords) : Fin 3 → Nat :=
  let arg0 : BitVec 32 := BitVec.ofNat 32 (i 0).val
  let v39 : Index := Scalar.indexCast arg0
  let c0_19 : Index := 0#32
  let c19 : Index := 19#32
  ![v39.toNat, 0, 19]
def k2_off21 (i : grid2.Coords) : Fin 3 → Nat :=
  let arg0 : BitVec 32 := BitVec.ofNat 32 (i 0).val
  let v41 : Index := Scalar.indexCast arg0
  let c0_20 : Index := 0#32
  let c20 : Index := 20#32
  ![v41.toNat, 0, 20]
def k2_off22 (i : grid2.Coords) : Fin 3 → Nat :=
  let arg0 : BitVec 32 := BitVec.ofNat 32 (i 0).val
  let v43 : Index := Scalar.indexCast arg0
  let c0_21 : Index := 0#32
  let c21 : Index := 21#32
  ![v43.toNat, 0, 21]
def k2_off23 (i : grid2.Coords) : Fin 3 → Nat :=
  let arg0 : BitVec 32 := BitVec.ofNat 32 (i 0).val
  let v45 : Index := Scalar.indexCast arg0
  let c0_22 : Index := 0#32
  let c22 : Index := 22#32
  ![v45.toNat, 0, 22]
def k2_off24 (i : grid2.Coords) : Fin 3 → Nat :=
  let arg0 : BitVec 32 := BitVec.ofNat 32 (i 0).val
  let v47 : Index := Scalar.indexCast arg0
  let c0_23 : Index := 0#32
  let c23 : Index := 23#32
  ![v47.toNat, 0, 23]
def k2_off25 (i : grid2.Coords) : Fin 3 → Nat :=
  let arg0 : BitVec 32 := BitVec.ofNat 32 (i 0).val
  let v49 : Index := Scalar.indexCast arg0
  let c0_24 : Index := 0#32
  let c24 : Index := 24#32
  ![v49.toNat, 0, 24]
def k2_off26 (i : grid2.Coords) : Fin 3 → Nat :=
  let arg0 : BitVec 32 := BitVec.ofNat 32 (i 0).val
  let v51 : Index := Scalar.indexCast arg0
  let c0_25 : Index := 0#32
  let c25 : Index := 25#32
  ![v51.toNat, 0, 25]
def k2_off27 (i : grid2.Coords) : Fin 3 → Nat :=
  let arg0 : BitVec 32 := BitVec.ofNat 32 (i 0).val
  let v53 : Index := Scalar.indexCast arg0
  let c0_26 : Index := 0#32
  let c26 : Index := 26#32
  ![v53.toNat, 0, 26]
def k2_off28 (i : grid2.Coords) : Fin 3 → Nat :=
  let arg0 : BitVec 32 := BitVec.ofNat 32 (i 0).val
  let v55 : Index := Scalar.indexCast arg0
  let c0_27 : Index := 0#32
  let c27 : Index := 27#32
  ![v55.toNat, 0, 27]
def k2_off29 (i : grid2.Coords) : Fin 3 → Nat :=
  let arg0 : BitVec 32 := BitVec.ofNat 32 (i 0).val
  let v57 : Index := Scalar.indexCast arg0
  let c0_28 : Index := 0#32
  let c28 : Index := 28#32
  ![v57.toNat, 0, 28]
def k2_off30 (i : grid2.Coords) : Fin 3 → Nat :=
  let arg0 : BitVec 32 := BitVec.ofNat 32 (i 0).val
  let v59 : Index := Scalar.indexCast arg0
  let c0_29 : Index := 0#32
  let c29 : Index := 29#32
  ![v59.toNat, 0, 29]
def k2_off31 (i : grid2.Coords) : Fin 3 → Nat :=
  let arg0 : BitVec 32 := BitVec.ofNat 32 (i 0).val
  let v61 : Index := Scalar.indexCast arg0
  let c0_30 : Index := 0#32
  let c30 : Index := 30#32
  ![v61.toNat, 0, 30]
def k2_off32 (i : grid2.Coords) : Fin 3 → Nat :=
  let arg0 : BitVec 32 := BitVec.ofNat 32 (i 0).val
  let v63 : Index := Scalar.indexCast arg0
  let c0_31 : Index := 0#32
  let c31 : Index := 31#32
  ![v63.toNat, 0, 31]
def k2_off33 (i : grid2.Coords) : Fin 3 → Nat :=
  let arg0 : BitVec 32 := BitVec.ofNat 32 (i 0).val
  let v65 : Index := Scalar.indexCast arg0
  let c0_32 : Index := 0#32
  let c32 : Index := 32#32
  ![v65.toNat, 0, 32]
def k2_off34 (i : grid2.Coords) : Fin 3 → Nat :=
  let arg0 : BitVec 32 := BitVec.ofNat 32 (i 0).val
  let v67 : Index := Scalar.indexCast arg0
  let c0_33 : Index := 0#32
  let c33 : Index := 33#32
  ![v67.toNat, 0, 33]
def k2_off35 (i : grid2.Coords) : Fin 3 → Nat :=
  let arg0 : BitVec 32 := BitVec.ofNat 32 (i 0).val
  let v69 : Index := Scalar.indexCast arg0
  let c0_34 : Index := 0#32
  let c34 : Index := 34#32
  ![v69.toNat, 0, 34]
def k2_off36 (i : grid2.Coords) : Fin 3 → Nat :=
  let arg0 : BitVec 32 := BitVec.ofNat 32 (i 0).val
  let v71 : Index := Scalar.indexCast arg0
  let c0_35 : Index := 0#32
  let c35 : Index := 35#32
  ![v71.toNat, 0, 35]
def k2_off37 (i : grid2.Coords) : Fin 3 → Nat :=
  let arg0 : BitVec 32 := BitVec.ofNat 32 (i 0).val
  let v73 : Index := Scalar.indexCast arg0
  let c0_36 : Index := 0#32
  let c36 : Index := 36#32
  ![v73.toNat, 0, 36]
def k2_off38 (i : grid2.Coords) : Fin 3 → Nat :=
  let arg0 : BitVec 32 := BitVec.ofNat 32 (i 0).val
  let v75 : Index := Scalar.indexCast arg0
  let c0_37 : Index := 0#32
  let c37 : Index := 37#32
  ![v75.toNat, 0, 37]
def k2_off39 (i : grid2.Coords) : Fin 3 → Nat :=
  let arg0 : BitVec 32 := BitVec.ofNat 32 (i 0).val
  let v77 : Index := Scalar.indexCast arg0
  let c0_38 : Index := 0#32
  let c38 : Index := 38#32
  ![v77.toNat, 0, 38]
def k2_off40 (i : grid2.Coords) : Fin 3 → Nat :=
  let arg0 : BitVec 32 := BitVec.ofNat 32 (i 0).val
  let v79 : Index := Scalar.indexCast arg0
  let c0_39 : Index := 0#32
  let c39 : Index := 39#32
  ![v79.toNat, 0, 39]
def k2_off41 (i : grid2.Coords) : Fin 3 → Nat :=
  let arg0 : BitVec 32 := BitVec.ofNat 32 (i 0).val
  let v81 : Index := Scalar.indexCast arg0
  let c0_40 : Index := 0#32
  let c40 : Index := 40#32
  ![v81.toNat, 0, 40]
def k2_off42 (i : grid2.Coords) : Fin 3 → Nat :=
  let arg0 : BitVec 32 := BitVec.ofNat 32 (i 0).val
  let v83 : Index := Scalar.indexCast arg0
  let c0_41 : Index := 0#32
  let c41 : Index := 41#32
  ![v83.toNat, 0, 41]
def k2_off43 (i : grid2.Coords) : Fin 3 → Nat :=
  let arg0 : BitVec 32 := BitVec.ofNat 32 (i 0).val
  let v85 : Index := Scalar.indexCast arg0
  let c0_42 : Index := 0#32
  let c42 : Index := 42#32
  ![v85.toNat, 0, 42]
def k2_off44 (i : grid2.Coords) : Fin 3 → Nat :=
  let arg0 : BitVec 32 := BitVec.ofNat 32 (i 0).val
  let v87 : Index := Scalar.indexCast arg0
  let c0_43 : Index := 0#32
  let c43 : Index := 43#32
  ![v87.toNat, 0, 43]
def k2_off45 (i : grid2.Coords) : Fin 3 → Nat :=
  let arg0 : BitVec 32 := BitVec.ofNat 32 (i 0).val
  let v89 : Index := Scalar.indexCast arg0
  let c0_44 : Index := 0#32
  let c44 : Index := 44#32
  ![v89.toNat, 0, 44]
def k2_off46 (i : grid2.Coords) : Fin 3 → Nat :=
  let arg0 : BitVec 32 := BitVec.ofNat 32 (i 0).val
  let v91 : Index := Scalar.indexCast arg0
  let c0_45 : Index := 0#32
  let c45 : Index := 45#32
  ![v91.toNat, 0, 45]
def k2_off47 (i : grid2.Coords) : Fin 3 → Nat :=
  let arg0 : BitVec 32 := BitVec.ofNat 32 (i 0).val
  let v93 : Index := Scalar.indexCast arg0
  let c0_46 : Index := 0#32
  let c46 : Index := 46#32
  ![v93.toNat, 0, 46]
def k2_off48 (i : grid2.Coords) : Fin 3 → Nat :=
  let arg0 : BitVec 32 := BitVec.ofNat 32 (i 0).val
  let v95 : Index := Scalar.indexCast arg0
  let c0_47 : Index := 0#32
  let c47 : Index := 47#32
  ![v95.toNat, 0, 47]
def k2_off49 (i : grid2.Coords) : Fin 3 → Nat :=
  let arg0 : BitVec 32 := BitVec.ofNat 32 (i 0).val
  let v97 : Index := Scalar.indexCast arg0
  let c0_48 : Index := 0#32
  let c48 : Index := 48#32
  ![v97.toNat, 0, 48]
def k2_off50 (i : grid2.Coords) : Fin 3 → Nat :=
  let arg0 : BitVec 32 := BitVec.ofNat 32 (i 0).val
  let v99 : Index := Scalar.indexCast arg0
  let c0_49 : Index := 0#32
  let c49 : Index := 49#32
  ![v99.toNat, 0, 49]
def k2_off51 (i : grid2.Coords) : Fin 3 → Nat :=
  let arg0 : BitVec 32 := BitVec.ofNat 32 (i 0).val
  let v101 : Index := Scalar.indexCast arg0
  let c0_50 : Index := 0#32
  let c50 : Index := 50#32
  ![v101.toNat, 0, 50]
def k2_off52 (i : grid2.Coords) : Fin 3 → Nat :=
  let arg0 : BitVec 32 := BitVec.ofNat 32 (i 0).val
  let v103 : Index := Scalar.indexCast arg0
  let c0_51 : Index := 0#32
  let c51 : Index := 51#32
  ![v103.toNat, 0, 51]
def k2_off53 (i : grid2.Coords) : Fin 3 → Nat :=
  let arg0 : BitVec 32 := BitVec.ofNat 32 (i 0).val
  let v105 : Index := Scalar.indexCast arg0
  let c0_52 : Index := 0#32
  let c52 : Index := 52#32
  ![v105.toNat, 0, 52]
def k2_off54 (i : grid2.Coords) : Fin 3 → Nat :=
  let arg0 : BitVec 32 := BitVec.ofNat 32 (i 0).val
  let v107 : Index := Scalar.indexCast arg0
  let c0_53 : Index := 0#32
  let c53 : Index := 53#32
  ![v107.toNat, 0, 53]
def k2_off55 (i : grid2.Coords) : Fin 3 → Nat :=
  let arg0 : BitVec 32 := BitVec.ofNat 32 (i 0).val
  let v109 : Index := Scalar.indexCast arg0
  let c0_54 : Index := 0#32
  let c54 : Index := 54#32
  ![v109.toNat, 0, 54]
def k2_off56 (i : grid2.Coords) : Fin 3 → Nat :=
  let arg0 : BitVec 32 := BitVec.ofNat 32 (i 0).val
  let v111 : Index := Scalar.indexCast arg0
  let c0_55 : Index := 0#32
  let c55 : Index := 55#32
  ![v111.toNat, 0, 55]
def k2_off57 (i : grid2.Coords) : Fin 3 → Nat :=
  let arg0 : BitVec 32 := BitVec.ofNat 32 (i 0).val
  let v113 : Index := Scalar.indexCast arg0
  let c0_56 : Index := 0#32
  let c56 : Index := 56#32
  ![v113.toNat, 0, 56]
def k2_off58 (i : grid2.Coords) : Fin 3 → Nat :=
  let arg0 : BitVec 32 := BitVec.ofNat 32 (i 0).val
  let v115 : Index := Scalar.indexCast arg0
  let c0_57 : Index := 0#32
  let c57 : Index := 57#32
  ![v115.toNat, 0, 57]
def k2_off59 (i : grid2.Coords) : Fin 3 → Nat :=
  let arg0 : BitVec 32 := BitVec.ofNat 32 (i 0).val
  let v117 : Index := Scalar.indexCast arg0
  let c0_58 : Index := 0#32
  let c58 : Index := 58#32
  ![v117.toNat, 0, 58]
def k2_off60 (i : grid2.Coords) : Fin 3 → Nat :=
  let arg0 : BitVec 32 := BitVec.ofNat 32 (i 0).val
  let v119 : Index := Scalar.indexCast arg0
  let c0_59 : Index := 0#32
  let c59 : Index := 59#32
  ![v119.toNat, 0, 59]
def k2_off61 (i : grid2.Coords) : Fin 3 → Nat :=
  let arg0 : BitVec 32 := BitVec.ofNat 32 (i 0).val
  let v121 : Index := Scalar.indexCast arg0
  let c0_60 : Index := 0#32
  let c60 : Index := 60#32
  ![v121.toNat, 0, 60]
def k2_off62 (i : grid2.Coords) : Fin 3 → Nat :=
  let arg0 : BitVec 32 := BitVec.ofNat 32 (i 0).val
  let v123 : Index := Scalar.indexCast arg0
  let c0_61 : Index := 0#32
  let c61 : Index := 61#32
  ![v123.toNat, 0, 61]
def k2_off63 (i : grid2.Coords) : Fin 3 → Nat :=
  let arg0 : BitVec 32 := BitVec.ofNat 32 (i 0).val
  let v125 : Index := Scalar.indexCast arg0
  let c0_62 : Index := 0#32
  let c62 : Index := 62#32
  ![v125.toNat, 0, 62]
def k2_off64 (i : grid2.Coords) : Fin 3 → Nat :=
  let arg0 : BitVec 32 := BitVec.ofNat 32 (i 0).val
  let v127 : Index := Scalar.indexCast arg0
  let c0_63 : Index := 0#32
  let c63 : Index := 63#32
  ![v127.toNat, 0, 63]
def k2_off65 (i : grid2.Coords) : Fin 3 → Nat :=
  let arg0 : BitVec 32 := BitVec.ofNat 32 (i 0).val
  let v129 : Index := Scalar.indexCast arg0
  let c0_64 : Index := 0#32
  let c64 : Index := 64#32
  ![v129.toNat, 0, 64]
def k2_off66 (i : grid2.Coords) : Fin 3 → Nat :=
  let arg0 : BitVec 32 := BitVec.ofNat 32 (i 0).val
  let v131 : Index := Scalar.indexCast arg0
  let c0_65 : Index := 0#32
  let c65 : Index := 65#32
  ![v131.toNat, 0, 65]
def k2_off67 (i : grid2.Coords) : Fin 3 → Nat :=
  let arg0 : BitVec 32 := BitVec.ofNat 32 (i 0).val
  let v133 : Index := Scalar.indexCast arg0
  let c0_66 : Index := 0#32
  let c66 : Index := 66#32
  ![v133.toNat, 0, 66]
def k2_off68 (i : grid2.Coords) : Fin 3 → Nat :=
  let arg0 : BitVec 32 := BitVec.ofNat 32 (i 0).val
  let v135 : Index := Scalar.indexCast arg0
  let c0_67 : Index := 0#32
  let c67 : Index := 67#32
  ![v135.toNat, 0, 67]
def k2_off69 (i : grid2.Coords) : Fin 3 → Nat :=
  let arg0 : BitVec 32 := BitVec.ofNat 32 (i 0).val
  let v137 : Index := Scalar.indexCast arg0
  let c0_68 : Index := 0#32
  let c68 : Index := 68#32
  ![v137.toNat, 0, 68]
def k2_off70 (i : grid2.Coords) : Fin 3 → Nat :=
  let arg0 : BitVec 32 := BitVec.ofNat 32 (i 0).val
  let v139 : Index := Scalar.indexCast arg0
  let c0_69 : Index := 0#32
  let c69 : Index := 69#32
  ![v139.toNat, 0, 69]
def k2_off71 (i : grid2.Coords) : Fin 3 → Nat :=
  let arg0 : BitVec 32 := BitVec.ofNat 32 (i 0).val
  let v141 : Index := Scalar.indexCast arg0
  let c0_70 : Index := 0#32
  let c70 : Index := 70#32
  ![v141.toNat, 0, 70]
def k2_off72 (i : grid2.Coords) : Fin 3 → Nat :=
  let arg0 : BitVec 32 := BitVec.ofNat 32 (i 0).val
  let v143 : Index := Scalar.indexCast arg0
  let c0_71 : Index := 0#32
  let c71 : Index := 71#32
  ![v143.toNat, 0, 71]
def k2_off73 (i : grid2.Coords) : Fin 3 → Nat :=
  let arg0 : BitVec 32 := BitVec.ofNat 32 (i 0).val
  let v145 : Index := Scalar.indexCast arg0
  let c0_72 : Index := 0#32
  let c72 : Index := 72#32
  ![v145.toNat, 0, 72]
def k2_off74 (i : grid2.Coords) : Fin 3 → Nat :=
  let arg0 : BitVec 32 := BitVec.ofNat 32 (i 0).val
  let v147 : Index := Scalar.indexCast arg0
  let c0_73 : Index := 0#32
  let c73 : Index := 73#32
  ![v147.toNat, 0, 73]
def k2_off75 (i : grid2.Coords) : Fin 3 → Nat :=
  let arg0 : BitVec 32 := BitVec.ofNat 32 (i 0).val
  let v149 : Index := Scalar.indexCast arg0
  let c0_74 : Index := 0#32
  let c74 : Index := 74#32
  ![v149.toNat, 0, 74]
def k2_off76 (i : grid2.Coords) : Fin 3 → Nat :=
  let arg0 : BitVec 32 := BitVec.ofNat 32 (i 0).val
  let v151 : Index := Scalar.indexCast arg0
  let c0_75 : Index := 0#32
  let c75 : Index := 75#32
  ![v151.toNat, 0, 75]
def k2_off77 (i : grid2.Coords) : Fin 3 → Nat :=
  let arg0 : BitVec 32 := BitVec.ofNat 32 (i 0).val
  let v153 : Index := Scalar.indexCast arg0
  let c0_76 : Index := 0#32
  let c76 : Index := 76#32
  ![v153.toNat, 0, 76]
def k2_off78 (i : grid2.Coords) : Fin 3 → Nat :=
  let arg0 : BitVec 32 := BitVec.ofNat 32 (i 0).val
  let v155 : Index := Scalar.indexCast arg0
  let c0_77 : Index := 0#32
  let c77 : Index := 77#32
  ![v155.toNat, 0, 77]
def k2_off79 (i : grid2.Coords) : Fin 3 → Nat :=
  let arg0 : BitVec 32 := BitVec.ofNat 32 (i 0).val
  let v157 : Index := Scalar.indexCast arg0
  let c0_78 : Index := 0#32
  let c78 : Index := 78#32
  ![v157.toNat, 0, 78]
def k2_off80 (i : grid2.Coords) : Fin 3 → Nat :=
  let arg0 : BitVec 32 := BitVec.ofNat 32 (i 0).val
  let v159 : Index := Scalar.indexCast arg0
  let c0_79 : Index := 0#32
  let c79 : Index := 79#32
  ![v159.toNat, 0, 79]
def k2_off81 (i : grid2.Coords) : Fin 3 → Nat :=
  let arg0 : BitVec 32 := BitVec.ofNat 32 (i 0).val
  let v161 : Index := Scalar.indexCast arg0
  let c0_80 : Index := 0#32
  let c80 : Index := 80#32
  ![v161.toNat, 0, 80]
def k2_off82 (i : grid2.Coords) : Fin 3 → Nat :=
  let arg0 : BitVec 32 := BitVec.ofNat 32 (i 0).val
  let v163 : Index := Scalar.indexCast arg0
  let c0_81 : Index := 0#32
  let c81 : Index := 81#32
  ![v163.toNat, 0, 81]
def k2_off83 (i : grid2.Coords) : Fin 3 → Nat :=
  let arg0 : BitVec 32 := BitVec.ofNat 32 (i 0).val
  let v165 : Index := Scalar.indexCast arg0
  let c0_82 : Index := 0#32
  let c82 : Index := 82#32
  ![v165.toNat, 0, 82]
def k2_off84 (i : grid2.Coords) : Fin 3 → Nat :=
  let arg0 : BitVec 32 := BitVec.ofNat 32 (i 0).val
  let v167 : Index := Scalar.indexCast arg0
  let c0_83 : Index := 0#32
  let c83 : Index := 83#32
  ![v167.toNat, 0, 83]
def k2_off85 (i : grid2.Coords) : Fin 3 → Nat :=
  let arg0 : BitVec 32 := BitVec.ofNat 32 (i 0).val
  let v169 : Index := Scalar.indexCast arg0
  let c0_84 : Index := 0#32
  let c84 : Index := 84#32
  ![v169.toNat, 0, 84]
def k2_off86 (i : grid2.Coords) : Fin 3 → Nat :=
  let arg0 : BitVec 32 := BitVec.ofNat 32 (i 0).val
  let v171 : Index := Scalar.indexCast arg0
  let c0_85 : Index := 0#32
  let c85 : Index := 85#32
  ![v171.toNat, 0, 85]
def k2_off87 (i : grid2.Coords) : Fin 3 → Nat :=
  let arg0 : BitVec 32 := BitVec.ofNat 32 (i 0).val
  let v173 : Index := Scalar.indexCast arg0
  let c0_86 : Index := 0#32
  let c86 : Index := 86#32
  ![v173.toNat, 0, 86]
def k2_off88 (i : grid2.Coords) : Fin 3 → Nat :=
  let arg0 : BitVec 32 := BitVec.ofNat 32 (i 0).val
  let v175 : Index := Scalar.indexCast arg0
  let c0_87 : Index := 0#32
  let c87 : Index := 87#32
  ![v175.toNat, 0, 87]
def k2_off89 (i : grid2.Coords) : Fin 3 → Nat :=
  let arg0 : BitVec 32 := BitVec.ofNat 32 (i 0).val
  let v177 : Index := Scalar.indexCast arg0
  let c0_88 : Index := 0#32
  let c88 : Index := 88#32
  ![v177.toNat, 0, 88]
def k2_off90 (i : grid2.Coords) : Fin 3 → Nat :=
  let arg0 : BitVec 32 := BitVec.ofNat 32 (i 0).val
  let v179 : Index := Scalar.indexCast arg0
  let c0_89 : Index := 0#32
  let c89 : Index := 89#32
  ![v179.toNat, 0, 89]
def k2_off91 (i : grid2.Coords) : Fin 3 → Nat :=
  let arg0 : BitVec 32 := BitVec.ofNat 32 (i 0).val
  let v181 : Index := Scalar.indexCast arg0
  let c0_90 : Index := 0#32
  let c90 : Index := 90#32
  ![v181.toNat, 0, 90]
def k2_off92 (i : grid2.Coords) : Fin 3 → Nat :=
  let arg0 : BitVec 32 := BitVec.ofNat 32 (i 0).val
  let v183 : Index := Scalar.indexCast arg0
  let c0_91 : Index := 0#32
  let c91 : Index := 91#32
  ![v183.toNat, 0, 91]
def k2_off93 (i : grid2.Coords) : Fin 3 → Nat :=
  let arg0 : BitVec 32 := BitVec.ofNat 32 (i 0).val
  let v185 : Index := Scalar.indexCast arg0
  let c0_92 : Index := 0#32
  let c92 : Index := 92#32
  ![v185.toNat, 0, 92]
def k2_off94 (i : grid2.Coords) : Fin 3 → Nat :=
  let arg0 : BitVec 32 := BitVec.ofNat 32 (i 0).val
  let v187 : Index := Scalar.indexCast arg0
  let c0_93 : Index := 0#32
  let c93 : Index := 93#32
  ![v187.toNat, 0, 93]
def k2_off95 (i : grid2.Coords) : Fin 3 → Nat :=
  let arg0 : BitVec 32 := BitVec.ofNat 32 (i 0).val
  let v189 : Index := Scalar.indexCast arg0
  let c0_94 : Index := 0#32
  let c94 : Index := 94#32
  ![v189.toNat, 0, 94]
def k2_off96 (i : grid2.Coords) : Fin 3 → Nat :=
  let arg0 : BitVec 32 := BitVec.ofNat 32 (i 0).val
  let v191 : Index := Scalar.indexCast arg0
  let c0_95 : Index := 0#32
  let c95 : Index := 95#32
  ![v191.toNat, 0, 95]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x1x96 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S96x32768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S128 : Shape := ⟨1, ![128]⟩
abbrev S128x1 : Shape := ⟨2, ![128, 1]⟩
abbrev S128x2 : Shape := ⟨2, ![128, 2]⟩

abbrev nBuf : Space → Nat
  | .hbm => 29
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i32⟩
  | .hbm, ⟨2, _⟩ => ⟨S_, .f32⟩
  | .hbm, ⟨3, _⟩ => ⟨S_, .i32⟩
  | .hbm, ⟨4, _⟩ => ⟨S128, .f32⟩
  | .hbm, ⟨5, _⟩ => ⟨S128, .i32⟩
  | .hbm, ⟨6, _⟩ => ⟨S_, .f32⟩
  | .hbm, ⟨7, _⟩ => ⟨S128x32768, .f32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S128x1, .i32⟩
  | .hbm, ⟨25, _⟩ => ⟨S128x2, .i32⟩
  | .hbm, ⟨26, _⟩ => ⟨S_, .f32⟩
  | .hbm, ⟨27, _⟩ => ⟨S128, .f32⟩
  | .hbm, ⟨28, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Twin.lean ====
/-
The kernel and its ideal twin have the same text, printed in two namespaces. Here: their tables of
bodies and their threads are equal, over any floats. The bodies are compared label by label.
-/
module

public import proofs.«01_k».proof.Defs
public import proofs.«01_k».proof.Proof.Gen.Kernel
public import proofs.«01_k».proof.Proof.Gen.KernelIdeal

@[expose] public section

noncomputable section

namespace Cert.Proof.Twin

open Idealize.ShloMosaic
open Idealize.SL.Sem

variable {F : FTy → Type} [FloatOps F]

/-- The kernels' bodies. -/
theorem defs0 : Cert.Kernel.defs₀ (F := F) = Cert.KernelIdeal.defs₀ (F := F) := by
  funext p ℓ a
  rcases p with _ | _ | ⟨c, s⟩
  · match ℓ, a with
    | 0, _ => rfl
    | 1, (t, s) => rfl
    | 2, (t, s) => rfl
  · match ℓ, a with
    | 0, _ => rfl
    | 1, _ => rfl
    | 2, _ => rfl
  · match ℓ, a with
    | 0, _ => rfl
    | 1, _ => rfl
    | 2, _ => rfl

/-- The whole tables: the bodies under the same pipelines and the same launch. -/
theorem defs : Cert.Kernel.defs (F := F) = Cert.KernelIdeal.defs (F := F) :=
  congrArg (fun D => Cert.KernelIdeal.sc.defs (Pipeline.defs Cert.KernelIdeal.pcfgs D)) defs0

theorem main : Cert.Kernel.main (F := F) = Cert.KernelIdeal.main (F := F) := rfl

theorem threads : Cert.Kernel.threads (F := F) = Cert.KernelIdeal.threads (F := F) := rfl

end Cert.Proof.Twin
-- ==== Proof.Base.lean ====
/-
  The set-up the proof of the kernel shares: the program as the launch theorem sees it, the resource algebra, the
  arrays and the scratch buffers by name, the rows and chunks the tiles work on.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR

instance EP_landsIn : (EP (F := F)).LandsIn (upEmb : UEmb _ 𝕄) := by unfold EP; infer_instance

/-! ## The arrays and the buffers -/

/-- The input, the SparseCore call's result, the row maxima's places, the result, as locations of device `d`. -/
abbrev xLoc (d : Dev nD) : Loc nD τ sig := (SparseCore.T d).loc main_arg0
abbrev sLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- The two arrays as a tile names them, and a tile's scratch: eight chunk buffers, the zeros, the patch. -/
abbrev xV : Memref sig .scVector .hbm S128x32768 .f32 := Memref.whole main_arg0_scv
abbrev oV : Memref sig .scVector .hbm S128x32768 .f32 := Memref.whole main_v0_scv
abbrev b0 : Memref sig .scVector .vmem S4096 .f32 := Memref.whole cc0_scratch0
abbrev b1 : Memref sig .scVector .vmem S4096 .f32 := Memref.whole cc0_scratch1
abbrev b2 : Memref sig .scVector .vmem S4096 .f32 := Memref.whole cc0_scratch2
abbrev b3 : Memref sig .scVector .vmem S4096 .f32 := Memref.whole cc0_scratch3
abbrev b4 : Memref sig .scVector .vmem S4096 .f32 := Memref.whole cc0_scratch4
abbrev b5 : Memref sig .scVector .vmem S4096 .f32 := Memref.whole cc0_scratch5
abbrev b6 : Memref sig .scVector .vmem S4096 .f32 := Memref.whole cc0_scratch6
abbrev b7 : Memref sig .scVector .vmem S4096 .f32 := Memref.whole cc0_scratch7
abbrev bz : Memref sig .scVector .vmem S4096 .f32 := Memref.whole cc0_scratch8
abbrev bp : Memref sig .scVector .vmem S16 .f32 := Memref.whole cc0_scratch9

/-- A tile's place: its SparseCore and its number there; the thread that is the tile. -/
abbrev cV (L : grid0.Coords) : Fin τ.nSC := (L 0).castLE hcore0
abbrev jV (L : grid0.Coords) : Fin τ.nSub := (L 1).castLE hsub0
abbrev tileT (d : Dev nD) (L : grid0.Coords) : Thread nD τ := V d (cV L) (jV L)

/-- The row of the tile at `L`. -/
def rowOf (L : grid0.Coords) : ℕ := 2 * (L 1).val + (L 0).val + 96
theorem rowOf_lt (L : grid0.Coords) : rowOf L < 128 := by
  have h0 : (L 0).val < 2 := (L 0).isLt
  have h1 : (L 1).val < 16 := (L 1).isLt
  unfold rowOf; omega

/-- The elements of row `r`. -/
def rowSet (r : ℕ) : Finset S128x32768.Idx := Finset.univ.filter fun i => (i 0).val = r
/-- The elements of chunk `p` of row `r`: the columns `4096 p` to `4096 p + 4095`. -/
def chunkSet (r p : ℕ) : Finset S128x32768.Idx := Finset.univ.filter fun i => (i 0).val = r ∧ (i 1).val / 4096 = p

theorem mem_rowSet {r : ℕ} {i : S128x32768.Idx} : i ∈ rowSet r ↔ (i 0).val = r := by simp [rowSet]
theorem mem_chunkSet {r p : ℕ} {i : S128x32768.Idx} : i ∈ chunkSet r p ↔ (i 0).val = r ∧ (i 1).val / 4096 = p := by simp [chunkSet]

theorem chunk_disjoint (r : ℕ) : ∀ p ∈ (Finset.univ : Finset (Fin 8)), ∀ p' ∈ (Finset.univ : Finset (Fin 8)), p ≠ p' →
    Disjoint (chunkSet r p.val) (chunkSet r p'.val) := by
  intro p _ p' _ h
  rw [Finset.disjoint_left]
  intro i hi hi'
  rw [mem_chunkSet] at hi hi'
  exact h (Fin.ext (hi.2.symm.trans hi'.2))

theorem chunk_cover (r : ℕ) : (Finset.univ : Finset (Fin 8)).biUnion (fun p => chunkSet r p.val) = rowSet r := by
  ext i
  have h1 : (i 1).val < 32768 := (i 1).isLt
  simp only [Finset.mem_biUnion, Finset.mem_univ, true_and, mem_chunkSet, mem_rowSet]
  constructor
  · rintro ⟨p, h, -⟩; exact h
  · intro h; exact ⟨⟨(i 1).val / 4096, by omega⟩, h, rfl⟩

/-- The 4096 elements at offset `off` of an array, as a tile names a row chunk. -/
abbrev chunkOf (m : Memref sig .scVector .hbm S128x32768 .f32) (off : Fin 2 → ℕ) (inb : ∀ a, off a + S1x4096.size a ≤ S128x32768.size a) :
    Memref sig .scVector .hbm S4096 .f32 :=
  (m.slice (Rect.unit (s := S128x32768) off S1x4096.size inb) (fun _ => rfl)).squeeze S4096 squeezes_S1x4096_S4096

/-- The chunk at row `r` and column `4096 p` has the elements of chunk `p` of row `r`. -/
theorem mem_chunkRect {r p : ℕ} {off : Fin 2 → ℕ} {inb} (h : off = ![r, 4096 * p]) :
    (Rect.unit (s := S128x32768) off S1x4096.size inb).set = chunkSet r p := by
  subst h
  ext i
  have h1 : (i 1).val < 32768 := (i 1).isLt
  rw [Rect.mem_set_unit, mem_chunkSet, Fin.forall_fin_two]
  simp [S1x4096, Shape.size]
  omega

theorem set_xChunk {r p : ℕ} {off : Fin 2 → ℕ} {inb} (h : off = ![r, 4096 * p]) : (chunkOf xV off inb).view.set = chunkSet r p := by
  show ((xV.view.slice (Rect.unit (s := S128x32768) off S1x4096.size inb)).reshape S4096 squeezes_S1x4096_S4096.numel_eq).set = _
  rw [View.set_reshape]
  exact (View.set_slice_whole _ _).trans (mem_chunkRect h)

theorem set_oChunk {r p : ℕ} {off : Fin 2 → ℕ} {inb} (h : off = ![r, 4096 * p]) : (chunkOf oV off inb).view.set = chunkSet r p := by
  show ((oV.view.slice (Rect.unit (s := S128x32768) off S1x4096.size inb)).reshape S4096 squeezes_S1x4096_S4096.numel_eq).set = _
  rw [View.set_reshape]
  exact (View.set_slice_whole _ _).trans (mem_chunkRect h)

/-- The element of row `r` and column `n`. -/
def ix (r n : ℕ) : S128x32768.Idx := fun a => ⟨![r, n] a % S128x32768.size a, Nat.mod_lt _ (by fin_cases a <;> decide)⟩

theorem ix_row {r n : ℕ} (hr : r < 128) : (ix r n 0).val = r := Nat.mod_eq_of_lt hr
theorem ix_col {r n : ℕ} (hn : n < 32768) : (ix r n 1).val = n := Nat.mod_eq_of_lt hn

/-- Entry `j` of the chunk at row `r` and column `b` is the array's element of that row and column `b + j`. -/
theorem emb_chunk {r b : ℕ} (hr : r < 128) {off : Fin 2 → ℕ} {inb : ∀ a, off a + S1x4096.size a ≤ S128x32768.size a} (h : off = ![r, b])
    (j : S4096.Idx) : (Rect.unit (s := S128x32768) off S1x4096.size inb).emb (Shape.reshapeEquiv squeezes_S1x4096_S4096.numel_eq j) = ix r (b + (j 0).val) := by
  subst h
  have hj : (j 0).val < 4096 := (j 0).isLt
  have hb : b + 4096 ≤ 32768 := inb 1
  rw [show Shape.reshapeEquiv squeezes_S1x4096_S4096.numel_eq j = Fin.cons ⟨0, Nat.one_pos⟩ j from Shape.reshapeEquiv_cons_one (d := ![4096]) _ j]
  funext a
  apply Fin.ext
  fin_cases a
  · show r + 1 * 0 = r % 128
    rw [Nat.mod_eq_of_lt hr]; omega
  · show b + 1 * (j 0).val = (b + (j 0).val) % 32768
    rw [Nat.mod_eq_of_lt (by omega)]; omega

theorem read_xChunk {r b : ℕ} (hr : r < 128) {off : Fin 2 → ℕ} {inb} (h : off = ![r, b]) (f : (main_arg0_scv : Ref sig .scVector).ty.Contents (Elt F)) (j : S4096.Idx) :
    (chunkOf xV off inb).view.read (Elt F) f j = f (ix r (b + (j 0).val)) :=
  congrArg f (emb_chunk hr h j)

theorem read_oChunk {r b : ℕ} (hr : r < 128) {off : Fin 2 → ℕ} {inb} (h : off = ![r, b]) (f : (main_v0_scv : Ref sig .scVector).ty.Contents (Elt F)) (j : S4096.Idx) :
    (chunkOf oV off inb).view.read (Elt F) f j = f (ix r (b + (j 0).val)) :=
  congrArg f (emb_chunk hr h j)

/-- The 16 elements at offset `off` of an array, as a tile names the block it patches. -/
abbrev patchOf (m : Memref sig .scVector .hbm S128x32768 .f32) (off : Fin 2 → ℕ) (inb : ∀ a, off a + S1x16.size a ≤ S128x32768.size a) :
    Memref sig .scVector .hbm S16 .f32 :=
  (m.slice (Rect.unit (s := S128x32768) off S1x16.size inb) (fun _ => rfl)).squeeze S16 squeezes_S1x16_S16

/-- The elements of the block of 16 columns at `16 q` of row `r`. -/
def patchSet (r q : ℕ) : Finset S128x32768.Idx := Finset.univ.filter fun i => (i 0).val = r ∧ (i 1).val / 16 = q
theorem mem_patchSet {r q : ℕ} {i : S128x32768.Idx} : i ∈ patchSet r q ↔ (i 0).val = r ∧ (i 1).val / 16 = q := by simp [patchSet]

theorem patch_subset (r q : ℕ) : patchSet r q ⊆ rowSet r := fun i h => mem_rowSet.2 (mem_patchSet.1 h).1

theorem mem_patchRect {r q : ℕ} {off : Fin 2 → ℕ} {inb} (h : off = ![r, 16 * q]) :
    (Rect.unit (s := S128x32768) off S1x16.size inb).set = patchSet r q := by
  subst h
  ext i
  have h1 : (i 1).val < 32768 := (i 1).isLt
  rw [Rect.mem_set_unit, mem_patchSet, Fin.forall_fin_two]
  simp [S1x16, Shape.size]
  omega

theorem set_oPatch {r q : ℕ} {off : Fin 2 → ℕ} {inb} (h : off = ![r, 16 * q]) : (patchOf oV off inb).view.set = patchSet r q := by
  show ((oV.view.slice (Rect.unit (s := S128x32768) off S1x16.size inb)).reshape S16 squeezes_S1x16_S16.numel_eq).set = _
  rw [View.set_reshape]
  exact (View.set_slice_whole _ _).trans (mem_patchRect h)

theorem emb_patch {r b : ℕ} (hr : r < 128) {off : Fin 2 → ℕ} {inb : ∀ a, off a + S1x16.size a ≤ S128x32768.size a} (h : off = ![r, b])
    (j : S16.Idx) : (Rect.unit (s := S128x32768) off S1x16.size inb).emb (Shape.reshapeEquiv squeezes_S1x16_S16.numel_eq j) = ix r (b + (j 0).val) := by
  subst h
  have hj : (j 0).val < 16 := (j 0).isLt
  have hb : b + 16 ≤ 32768 := inb 1
  rw [show Shape.reshapeEquiv squeezes_S1x16_S16.numel_eq j = Fin.cons ⟨0, Nat.one_pos⟩ j from Shape.reshapeEquiv_cons_one (d := ![16]) _ j]
  funext a
  apply Fin.ext
  fin_cases a
  · show r + 1 * 0 = r % 128
    rw [Nat.mod_eq_of_lt hr]; omega
  · show b + 1 * (j 0).val = (b + (j 0).val) % 32768
    rw [Nat.mod_eq_of_lt (by omega)]; omega

theorem read_oPatch {r b : ℕ} (hr : r < 128) {off : Fin 2 → ℕ} {inb} (h : off = ![r, b]) (f : (main_v0_scv : Ref sig .scVector).ty.Contents (Elt F)) (j : S16.Idx) :
    (patchOf oV off inb).view.read (Elt F) f j = f (ix r (b + (j 0).val)) :=
  congrArg f (emb_patch hr h j)

end Cert.Proof.Run
-- ==== Proof.Scan.lean ====
/-
  The scan of one row, as numbers: what the tile's loops carry, step by step, and one chunk's loop as a rule.
-/
module

public import Idealize.ShloMosaic.Lib.Pipeline.Value
public import proofs.«01_k».proof.Proof.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The running maxima -/

/-- What a scan carries: a first stream's best values and their columns, a second stream's, sixteen lanes each. -/
abbrev Acc (F : FTy → Type) : Type := FVec F S16 .f32 × IVec S16 32 × FVec F S16 .f32 × IVec S16 32

/-- The columns `n`, `n + 1`, …, one a lane; and a row's values there. -/
def idxVec (n : ℕ) : IVec S16 32 := fun l => BitVec.ofNat 32 (n + (l 0).val)
def colVec (g : ℕ → F .f32) (n : ℕ) : FVec F S16 .f32 := fun l => g (n + (l 0).val)

/-- One step on both streams: a lane takes the new value and its column where the value is greater. -/
def stepW (i0 i1 : IVec S16 32) (c : Acc F) (x y : FVec F S16 .f32) : Acc F :=
  (select (cmpf .ogt x c.1) x c.1, select (cmpf .ogt x c.1) i0 c.2.1,
    select (cmpf .ogt y c.2.2.1) y c.2.2.1, select (cmpf .ogt y c.2.2.1) i1 c.2.2.2)

/-- What is carried after `n` steps of 32 columns over the row `g`. -/
def scan (g : ℕ → F .f32) : ℕ → Acc F
  | 0 => (k0_pay2, iota .scVector S16 32 [0] iota_S16_d0_w32_scVector, k0_pay2, k0_pay3)
  | n + 1 => stepW (idxVec (32 * n)) (idxVec (32 * n + 16)) (scan g n) (colVec g (32 * n)) (colVec g (32 * n + 16))

omit [FloatOps F] in
/-- The columns as a trip computes them from its chunk's first column `b`. -/
theorem idx_words (b k : ℕ) (base : BitVec 32) (hb : base = BitVec.ofNat 32 b) :
    addi (broadcast S16 (Scalar.addi base (Scalar.muli (Scf.iv 0#32 1#32 k) 32#32))) (iota .scVector S16 32 [0] iota_S16_d0_w32_scVector)
      = idxVec (b + 32 * k) := by
  subst hb
  funext l
  show BitVec.ofNat 32 b + (0#32 + BitVec.ofNat 32 k * 1#32) * 32#32 + iota .scVector S16 32 [0] iota_S16_d0_w32_scVector l = BitVec.ofNat 32 (b + 32 * k + (l 0).val)
  rw [iota_single_apply]
  apply BitVec.eq_of_toNat_eq
  simp only [BitVec.toNat_add, BitVec.toNat_mul, BitVec.toNat_ofNat]
  omega

omit [FloatOps F] in
theorem idx_words16 (n : ℕ) : addi (idxVec n) (broadcast S16 16#32) = idxVec (n + 16) := by
  funext l
  show BitVec.ofNat 32 (n + (l 0).val) + 16#32 = BitVec.ofNat 32 (n + 16 + (l 0).val)
  apply BitVec.eq_of_toNat_eq
  simp only [BitVec.toNat_add, BitVec.toNat_ofNat]
  omega

/-- A trip's words, from its chunk's first column `b`, are one step. -/
theorem trip_words (b k : ℕ) (base : BitVec 32) (hb : base = BitVec.ofNat 32 b) (c : Acc F) (x y : FVec F S16 .f32) :
    ((select (cmpf .ogt (shapeCast S16 x shapeCasts_S16_S16) c.1) (shapeCast S16 x shapeCasts_S16_S16) c.1,
      select (cmpf .ogt (shapeCast S16 x shapeCasts_S16_S16) c.1)
        (addi (broadcast S16 (Scalar.addi base (Scalar.muli (Scf.iv 0#32 1#32 k) 32#32))) (iota .scVector S16 32 [0] iota_S16_d0_w32_scVector)) c.2.1,
      select (cmpf .ogt (shapeCast S16 y shapeCasts_S16_S16) c.2.2.1) (shapeCast S16 y shapeCasts_S16_S16) c.2.2.1,
      select (cmpf .ogt (shapeCast S16 y shapeCasts_S16_S16) c.2.2.1)
        (addi (addi (broadcast S16 (Scalar.addi base (Scalar.muli (Scf.iv 0#32 1#32 k) 32#32))) (iota .scVector S16 32 [0] iota_S16_d0_w32_scVector))
          (broadcast S16 16#32)) c.2.2.2) : Acc F)
      = stepW (idxVec (b + 32 * k)) (idxVec (b + 32 * k + 16)) c x y := by
  rw [idx_words b k base hb, idx_words16, shapeCast_self, shapeCast_self]
  rfl

omit [FloatOps F] in
/-- What a load of sixteen entries at `n` reads of a chunk buffer that holds the columns from `b` on. -/
theorem load_cols (d : Dev nD) (L : grid0.Coords) (m : Memref sig .scVector .vmem S4096 .f32) (f : Buf (Elt F) (m.view.loc (tileT d L)))
    (g : ℕ → F .f32) (b : ℕ) (hf : ∀ j : S4096.Idx, m.view.read (Elt F) f j = g (b + (j 0).val))
    (o : Fin 1 → ℕ) (n : ℕ) (ho : o = ![n]) (inb : ∀ a, o a + S16.size a ≤ S4096.size a) :
    m.view.readAt (Elt F) (Rect.unit (s := S4096) o S16.size inb).toLoadRect f = colVec g (b + n) := by
  subst ho
  funext l
  rw [View.readAt_apply, hf]
  show g (b + (n + 1 * (l 0).val)) = g (b + n + (l 0).val)
  congr 1; omega

/-- One chunk's scan: a loop of 128 trips, each two loads of the chunk's buffer and a step, takes what is carried from
    `n` steps to `n + 128`; the buffer is given back. -/
theorem wp_scan (d : Dev nD) (L : grid0.Coords) (m : Memref sig .scVector .vmem S4096 .f32) (f : Buf (Elt F) (m.view.loc (tileT d L)))
    (g : ℕ → F .f32) (n : ℕ) (hf : ∀ j : S4096.Idx, m.view.read (Elt F) f j = g (32 * n + (j 0).val))
    (lp : Scf.Loop 32) (ok : lp.OK) (h128 : lp.trips = 128)
    (body : Fin lp.trips → Acc F → Prog (TpuEff nD τ sig (Elt F) Λ₀ (.scVector (cV L) (jV L))) (Acc F))
    (o1 o2 : Fin lp.trips → Fin 1 → ℕ) (ho1 : ∀ k, o1 k = ![32 * k.val]) (ho2 : ∀ k, o2 k = ![32 * k.val + 16])
    (i1 : ∀ k, ∀ a, o1 k a + S16.size a ≤ S4096.size a) (i2 : ∀ k, ∀ a, o2 k a + S16.size a ≤ S4096.size a)
    (st : Fin lp.trips → Acc F → FVec F S16 .f32 → FVec F S16 .f32 → Acc F)
    (hst : ∀ k c x y, st k c x y = stepW (idxVec (32 * n + 32 * k.val)) (idxVec (32 * n + 32 * k.val + 16)) c x y)
    (l1 : ∀ k, m.view.LoadsAt (Rect.unit (s := S4096) (o1 k) S16.size (i1 k)).toLoadRect)
    (l2 : ∀ k, m.view.LoadsAt (Rect.unit (s := S4096) (o2 k) S16.size (i2 k)).toLoadRect)
    (hbody : ∀ k c, body k c = .op (.load m (Rect.unit (s := S4096) (o1 k) S16.size (i1 k)).toLoadRect (l1 k)) fun (x : FVec F S16 .f32) =>
      .op (.load m (Rect.unit (s := S4096) (o2 k) S16.size (i2 k)).toLoadRect (l2 k)) fun (y : FVec F S16 .f32) => .ret (st k c x y))
    (init : Acc F) (hinit : init = scan g n)
    {β : Type} {kk : Acc F → Prog (TpuEff nD τ sig (Elt F) Λ₀ (.scVector (cV L) (jV L))) β} {Q : β → sProp 𝕄} :
    (m.view.loc (tileT d L) ↦{fullShare} f)
      ⊢ iprop(((m.view.loc (tileT d L) ↦{fullShare} f) -∗ wp frame (wpE (defs₀ (F := F)) 𝒱₀ (tileT d L) none) Set.univ (kk (scan g (n + 128))) Q)
          -∗ wp frame (wpE (defs₀ (F := F)) 𝒱₀ (tileT d L) none) Set.univ (lp.for ok init body >>= kk) Q) := by
  have step : ∀ (k : Fin lp.trips) (acc : Acc F),
      (iprop(⌜acc = scan g (n + k.val)⌝ ∗ m.view.loc (tileT d L) ↦{fullShare} f) : sProp 𝕄)
        ⊢ wp frame (wpE (defs₀ (F := F)) 𝒱₀ (tileT d L) none) Set.univ (body k acc)
            (fun acc' => iprop(⌜acc' = scan g (n + (k.val + 1))⌝ ∗ m.view.loc (tileT d L) ↦{fullShare} f)) := by
    intro k acc
    rw [hbody]
    iintro ⟨%ha, H⟩
    iapply (wp_load 𝒱₀ (tileT d L) none Set.univ (Finset.subset_univ _)) $$ H
    iintro H
    iapply (wp_load 𝒱₀ (tileT d L) none Set.univ (Finset.subset_univ _)) $$ H
    iintro H
    rw [load_cols d L m f g _ hf _ _ (ho1 k), load_cols d L m f g _ hf _ _ (ho2 k), wp_ret]
    imodintro
    isplitr
    · ipureintro
      rw [hst, ha, show 32 * n + (32 * k.val + 16) = 32 * (n + k.val) + 16 by omega, show 32 * n + 32 * k.val = 32 * (n + k.val) by omega]
      rfl
    · iexact H
  iintro H HK
  iapply (Scf.wp_for_bind frame (wpE (defs₀ (F := F)) 𝒱₀ (tileT d L) none) Set.univ lp.lb lp.ub lp.st ok init body
    (fun k acc => iprop(⌜acc = scan g (n + k)⌝ ∗ m.view.loc (tileT d L) ↦{fullShare} f)) step) $$ [H]
  · isplitr
    · ipureintro; exact hinit
    · iexact H
  iintro %acc ⟨%ha, H⟩
  rw [ha, show n + Scf.trips lp.lb lp.ub lp.st = n + 128 from congrArg (n + ·) h128]
  iapply HK; iexact H

end Cert.Proof.Run
-- ==== Proof.Pick.lean ====
/-
  From what the scans carry to one column: the two streams merged, then the sixteen lanes.
-/
module

public import proofs.«01_k».proof.Proof.Scan

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The merge of the streams and of the lanes -/

/-- A value and a column a lane. -/
abbrev Pair (F : FTy → Type) : Type := FVec F S16 .f32 × IVec S16 32

/-- Lane by lane, the second pair where its value is greater, or where the values are equal and its column is less. -/
def mergeV (p q : Pair F) : IVec S16 1 := ori (cmpf .ogt q.1 p.1) (andi (cmpf .oeq q.1 p.1) (cmpi .slt q.2 p.2))
def mergeP (p q : Pair F) : Pair F := (select (mergeV p q) q.1 p.1, select (mergeV p q) q.2 p.2)

/-- A lane by its number. -/
def lane (n : Fin 16) : S16.Idx := fun
  | ⟨0, _⟩ => n

/-- The lanes exchanged: lane `l` gets what lane `l xor s` has. -/
def swapL {α : Type} (s : ℕ) (v : S16.Idx → α) : S16.Idx → α := fun l => v (lane ⟨((l 0).val ^^^ s) % 16, Nat.mod_lt _ (by decide)⟩)
def swapP (s : ℕ) (p : Pair F) : Pair F := (swapL s p.1, swapL s p.2)

omit [FloatOps F] in
theorem lane_cases (l : S16.Idx) : ∃ n : Fin 16, l = lane n :=
  ⟨l 0, funext fun | ⟨0, _⟩ => rfl⟩

/-- Equal slices of sixteen lanes, concatenated so that lane `l` gets what lane `l xor s` has. -/
theorem cat_swap {α : Type} (v : S16.Idx → α) (s₁ : Shape) (hr : s₁.rank = S16.rank) (K N s : ℕ) (h0 : 0 < K) (hK : s₁.size (Fin.cast hr.symm 0) = K)
    (o : Fin N → Fin 1 → ℕ) (hs : ∀ n, S16.Slices (o n) s₁)
    (hc : Shape.Concatenates ((List.ofFn fun n : Fin N => (⟨s₁, extractStridedSlice s₁ (o n) v (hs n)⟩ : (s : Shape) × (s.Idx → α))).map (·.1)) S16 0)
    (ho : ∀ l : Fin 16, ∃ h : l.val / K < N, o ⟨l.val / K, h⟩ 0 + l.val % K = (l.val ^^^ s) % 16) :
    concatenate S16 0 (List.ofFn fun n : Fin N => (⟨s₁, extractStridedSlice s₁ (o n) v (hs n)⟩ : (s : Shape) × (s.Idx → α))) hc = swapL s v := by
  funext l
  obtain ⟨n, rfl⟩ := lane_cases l
  obtain ⟨h, he⟩ := ho n
  have hz : ∀ b : Fin s₁.rank, b.cast hr = 0 := fun b => Fin.ext (by have := (b.cast hr).isLt; exact Nat.lt_one_iff.mp this)
  rw [concatenate_ofFn_apply (0 : Fin S16.rank) _ hc hr K hK (lane n) ⟨n.val / K, h⟩ rfl
    (fun b => ⟨n.val % K, by
      have : b = Fin.cast hr.symm 0 := by have h := congrArg Fin.val (hz b); exact Fin.ext h
      rw [this, hK]; exact Nat.mod_lt _ h0⟩) rfl (fun b hb => absurd (hz b) hb)]
  exact congrArg v (funext fun | ⟨0, _⟩ => Fin.ext he)

theorem cat8 {α : Type} (v : S16.Idx → α) :
    concatenate S16 0 [⟨S8, extractStridedSlice S8 ![8] v slices_S16_o8_S8⟩, ⟨S8, extractStridedSlice S8 ![0] v slices_S16_o0_S8⟩]
      concatenates_S8_S8_S16_d0 = swapL 8 v :=
  cat_swap v S8 rfl 8 2 8 (by decide) rfl (fun n => ![![8, 0] n]) (by decide) concatenates_S8_S8_S16_d0 (by decide)

theorem cat4 {α : Type} (v : S16.Idx → α) :
    concatenate S16 0 [⟨S4, extractStridedSlice S4 ![4] v slices_S16_o4_S4⟩, ⟨S4, extractStridedSlice S4 ![0] v slices_S16_o0_S4⟩,
        ⟨S4, extractStridedSlice S4 ![12] v slices_S16_o12_S4⟩, ⟨S4, extractStridedSlice S4 ![8] v slices_S16_o8_S4⟩]
      concatenates_S4_S4_S4_S4_S16_d0 = swapL 4 v :=
  cat_swap v S4 rfl 4 4 4 (by decide) rfl (fun n => ![![4, 0, 12, 8] n])
    (by decide) concatenates_S4_S4_S4_S4_S16_d0 (by decide)

theorem cat2 {α : Type} (v : S16.Idx → α) :
    concatenate S16 0 [⟨S2, extractStridedSlice S2 ![2] v slices_S16_o2_S2⟩, ⟨S2, extractStridedSlice S2 ![0] v slices_S16_o0_S2⟩,
        ⟨S2, extractStridedSlice S2 ![6] v slices_S16_o6_S2⟩, ⟨S2, extractStridedSlice S2 ![4] v slices_S16_o4_S2⟩,
        ⟨S2, extractStridedSlice S2 ![10] v slices_S16_o10_S2⟩, ⟨S2, extractStridedSlice S2 ![8] v slices_S16_o8_S2⟩,
        ⟨S2, extractStridedSlice S2 ![14] v slices_S16_o14_S2⟩, ⟨S2, extractStridedSlice S2 ![12] v slices_S16_o12_S2⟩]
      concatenates_S2_S2_S2_S2_S2_S2_S2_S2_S16_d0 = swapL 2 v :=
  cat_swap v S2 rfl 2 8 2 (by decide) rfl (fun n => ![![2, 0, 6, 4, 10, 8, 14, 12] n])
    (by decide)
    concatenates_S2_S2_S2_S2_S2_S2_S2_S2_S16_d0 (by decide)

theorem cat1 {α : Type} (v : S16.Idx → α) :
    concatenate S16 0 [⟨S1, extractStridedSlice S1 ![1] v slices_S16_o1_S1⟩, ⟨S1, extractStridedSlice S1 ![0] v slices_S16_o0_S1⟩,
        ⟨S1, extractStridedSlice S1 ![3] v slices_S16_o3_S1⟩, ⟨S1, extractStridedSlice S1 ![2] v slices_S16_o2_S1⟩,
        ⟨S1, extractStridedSlice S1 ![5] v slices_S16_o5_S1⟩, ⟨S1, extractStridedSlice S1 ![4] v slices_S16_o4_S1⟩,
        ⟨S1, extractStridedSlice S1 ![7] v slices_S16_o7_S1⟩, ⟨S1, extractStridedSlice S1 ![6] v slices_S16_o6_S1⟩,
        ⟨S1, extractStridedSlice S1 ![9] v slices_S16_o9_S1⟩, ⟨S1, extractStridedSlice S1 ![8] v slices_S16_o8_S1⟩,
        ⟨S1, extractStridedSlice S1 ![11] v slices_S16_o11_S1⟩, ⟨S1, extractStridedSlice S1 ![10] v slices_S16_o10_S1⟩,
        ⟨S1, extractStridedSlice S1 ![13] v slices_S16_o13_S1⟩, ⟨S1, extractStridedSlice S1 ![12] v slices_S16_o12_S1⟩,
        ⟨S1, extractStridedSlice S1 ![15] v slices_S16_o15_S1⟩, ⟨S1, extractStridedSlice S1 ![14] v slices_S16_o14_S1⟩]
      concatenates_S1_S1_S1_S1_S1_S1_S1_S1_S1_S1_S1_S1_S1_S1_S1_S1_S16_d0 = swapL 1 v :=
  cat_swap v S1 rfl 1 16 1 (by decide) rfl (fun n => ![![1, 0, 3, 2, 5, 4, 7, 6, 9, 8, 11, 10, 13, 12, 15, 14] n])
    (by decide)
    concatenates_S1_S1_S1_S1_S1_S1_S1_S1_S1_S1_S1_S1_S1_S1_S1_S1_S16_d0 (by decide)

/-- The merge of the two streams, and one stage of the lanes' tournament. -/
def streams (c : Acc F) : Pair F := mergeP (c.1, c.2.1) (c.2.2.1, c.2.2.2)
def stage (s : ℕ) (p : Pair F) : Pair F := mergeP p (swapP s p)

/-- The column of a tile's row: the streams merged, the lanes merged in four stages, lane 0 taken. -/
def pickP (g : ℕ → F .f32) : Pair F := stage 1 (stage 2 (stage 4 (stage 8 (streams (scan g 1024)))))
def pick (g : ℕ → F .f32) : BitVec 32 := (pickP g).2 (lane 0)

/-- The words the tile computes from what the scans carry: three stages, then the last stage's lane 0. -/
theorem three_stages (c : Acc F) :
    ((k0_pay94 c.1 c.2.1 c.2.2.1 c.2.2.2 (k0_pay76 c.1 c.2.2.1) (k0_pay77 c.1 c.2.2.1),
      k0_pay95 c.1 c.2.1 c.2.2.1 c.2.2.2 (k0_pay76 c.1 c.2.2.1) (k0_pay77 c.1 c.2.2.1)) : Pair F)
      = stage 2 (stage 4 (stage 8 (streams c))) := by
  have h8 : ((k0_pay84 c.1 c.2.1 c.2.2.1 c.2.2.2 (k0_pay76 c.1 c.2.2.1) (k0_pay77 c.1 c.2.2.1),
      k0_pay85 c.1 c.2.1 c.2.2.1 c.2.2.2 (k0_pay76 c.1 c.2.2.1) (k0_pay77 c.1 c.2.2.1)) : Pair F) = stage 8 (streams c) := by
    unfold k0_pay84 k0_pay85 k0_pay83 k0_pay81 k0_pay82
    dsimp only
    rw [cat8, cat8]; rfl
  have h4 : ((k0_pay89 c.1 c.2.1 c.2.2.1 c.2.2.2 (k0_pay76 c.1 c.2.2.1) (k0_pay77 c.1 c.2.2.1),
      k0_pay90 c.1 c.2.1 c.2.2.1 c.2.2.2 (k0_pay76 c.1 c.2.2.1) (k0_pay77 c.1 c.2.2.1)) : Pair F) = stage 4 (stage 8 (streams c)) := by
    rw [← h8]
    unfold k0_pay89 k0_pay90 k0_pay88 k0_pay86 k0_pay87
    dsimp only
    rw [cat4, cat4]; rfl
  rw [← h4]
  unfold k0_pay94 k0_pay95 k0_pay93 k0_pay91 k0_pay92
  dsimp only
  rw [cat2, cat2]; rfl

theorem last_stage (p : Pair F) : extractAt ![0] (k0_pay96 p.1 p.2) inpos_S1_p0 = (stage 1 p).2 (lane 0) := by
  unfold k0_pay96
  dsimp only
  rw [cat1, cat1]
  exact congrArg (stage 1 p).2 (funext fun | ⟨0, _⟩ => rfl)

/-! ## The column is a column of the row -/

/-- Every lane holds a column below 32768. -/
def InRow (i : IVec S16 32) : Prop := ∀ l, (i l).toNat < 32768

omit [FloatOps F] in
theorem inRow_select {c : IVec S16 1} {i j : IVec S16 32} (hi : InRow i) (hj : InRow j) : InRow (select c i j) := fun l => by
  show (Scalar.select (c l) (i l) (j l)).toNat < 32768
  unfold Scalar.select
  split
  · exact hi l
  · exact hj l

omit [FloatOps F] in
theorem inRow_idxVec {n : ℕ} (h : n + 16 ≤ 32768) : InRow (idxVec n) := fun l => by
  have hl : (l 0).val < 16 := (l 0).isLt
  show (BitVec.ofNat 32 (n + (l 0).val)).toNat < 32768
  rw [BitVec.toNat_ofNat]; omega

theorem inRow_scan (g : ℕ → F .f32) : ∀ n, n ≤ 1024 → InRow (scan g n).2.1 ∧ InRow (scan g n).2.2.2
  | 0, _ => by
    have h0 := idx_words 0 0 0#32 rfl
    refine ⟨fun l => ?_, fun l => ?_⟩
    · have hl : (l 0).val < 16 := (l 0).isLt
      show (iota .scVector S16 32 [0] iota_S16_d0_w32_scVector l).toNat < 32768
      rw [iota_single_apply, BitVec.toNat_ofNat]; omega
    · have hl : (l 0).val < 16 := (l 0).isLt
      show (iota .scVector S16 32 [0] iota_S16_d0_w32_scVector l + 16#32).toNat < 32768
      rw [iota_single_apply, BitVec.toNat_add, BitVec.toNat_ofNat, BitVec.toNat_ofNat]; omega
  | n + 1, h =>
    have ih := inRow_scan g n (by omega)
    ⟨inRow_select (inRow_idxVec (by omega)) ih.1, inRow_select (inRow_idxVec (by omega)) ih.2⟩

theorem inRow_stage (s : ℕ) {p : Pair F} (h : InRow p.2) : InRow (stage s p).2 :=
  inRow_select (fun l => h _) h

/-- For any float values, whatever the comparisons give. -/
theorem pick_lt (g : ℕ → F .f32) : (pick g).toNat < 32768 := by
  have h := inRow_scan g 1024 le_rfl
  exact inRow_stage 1 (inRow_stage 2 (inRow_stage 4 (inRow_stage 8 (inRow_select h.2 h.1)))) _

/-- The words the tile computes are the picked column. -/
theorem words_pick (g : ℕ → F .f32) (c : Acc F) (hc : c = scan g 1024) :
    extractAt ![0] (k0_pay96 (k0_pay94 c.1 c.2.1 c.2.2.1 c.2.2.2 (k0_pay76 c.1 c.2.2.1) (k0_pay77 c.1 c.2.2.1))
      (k0_pay95 c.1 c.2.1 c.2.2.1 c.2.2.2 (k0_pay76 c.1 c.2.2.1) (k0_pay77 c.1 c.2.2.1))) inpos_S1_p0 = pick g := by
  subst hc
  have h := three_stages (scan g 1024)
  have h1 := congrArg Prod.fst h
  have h2 := congrArg Prod.snd h
  dsimp only at h1 h2
  rw [h1, h2, last_stage]
  rfl

/-- What the tile writes over its row's 16-aligned block at the picked column `v`: one there, zero elsewhere. -/
theorem patch_words (v182 : FVec F S16 .f32) (v183 : IVec S16 32) (l : S16.Idx) :
    k0_pay97 (iota .scVector S16 32 [0] iota_S16_d0_w32_scVector) v182 v183 l
      = if (l 0).val = (extractAt ![0] (k0_pay96 v182 v183) inpos_S1_p0).toNat % 16 then Scalar.ofBits .f32 0x3F800000#32 else Scalar.ofBits .f32 0x00000000#32 := by
  unfold k0_pay97
  dsimp only
  rw [shapeCast_self]
  generalize extractAt ![0] (k0_pay96 v182 v183) inpos_S1_p0 = w
  show Scalar.select (Scalar.cmpi .eq (iota .scVector S16 32 [0] iota_S16_d0_w32_scVector l) (w &&& 15#32)) _ _ = _
  rw [iota_single_apply]
  have hl : (l 0).val < 16 := (l 0).isLt
  have hw : (w &&& 15#32).toNat = w.toNat % 16 := by
    rw [BitVec.toNat_and]; exact Nat.and_two_pow_sub_one_eq_mod w.toNat 4
  have hiff : (BitVec.ofNat 32 (l 0).val = w &&& 15#32) ↔ (l 0).val = w.toNat % 16 := by
    rw [← hw, BitVec.toNat_eq, BitVec.toNat_ofNat, Nat.mod_eq_of_lt (by omega)]
  show (if BitVec.ofBool (BitVec.ofNat 32 (l 0).val == w &&& 15#32) = 1 then _ else _) = _
  by_cases hc : (l 0).val = w.toNat % 16
  · rw [if_pos hc, hiff.2 hc]; simp; rfl
  · rw [if_neg hc, beq_eq_false_iff_ne.2 fun h => hc (hiff.1 h)]; rfl

/-- A word's low four bits cleared. -/
theorem toNat_mask (w : BitVec 32) : (w &&& 4294967280#32).toNat = 16 * (w.toNat / 16) := by
  rw [BitVec.toNat_and, BitVec.toNat_ofNat, show 4294967280 % 2 ^ 32 = (2 ^ 28 - 1) * 2 ^ 4 by norm_num, mul_comm 16, show 16 = 2 ^ 4 by norm_num]
  apply Nat.eq_of_testBit_eq
  intro i
  rw [Nat.testBit_and, Nat.testBit_mul_two_pow, Nat.testBit_mul_two_pow, Nat.testBit_two_pow_sub_one, Nat.testBit_div_two_pow]
  by_cases h4 : 4 ≤ i
  · by_cases h32 : i < 32
    · have : i - 4 < 28 := by omega
      simp [h4, this, Nat.sub_add_cancel h4]
    · have hw : w.toNat.testBit i = false := Nat.testBit_lt_two_pow (lt_of_lt_of_le w.isLt (Nat.pow_le_pow_right (by norm_num) (by omega)))
      simp [h4, Nat.sub_add_cancel h4, hw]
  · simp [h4]

/-- Where the patch goes: the tile's row, at the block of the picked column. -/
theorem off34_eq (L : grid0.Coords) (w : BitVec 32) : k0_off34 L w = ![rowOf L, 16 * (w.toNat / 16)] := by
  have h := congrFun (k0_off1_eq L) 0
  have h2 : k0_off34 L w = ![k0_off1 L 0, (w &&& 4294967280#32).toNat] := rfl
  rw [h2, h, toNat_mask]
  rfl

/-- The check before the patch's copy holds of the picked column. -/
theorem chk_of_lt (L : grid0.Coords) (w : BitVec 32) (h : w.toNat < 32768) : k0_chk1 L w := by
  refine ⟨?_, ?_⟩
  · show 16 ∣ (w &&& 4294967280#32).toNat
    rw [toNat_mask]; exact Nat.dvd_mul_right _ _
  · rw [off34_eq]
    have hr := rowOf_lt L
    intro a
    fin_cases a
    · show rowOf L + 1 ≤ 128
      omega
    · show 16 * (w.toNat / 16) + 16 ≤ 32768
      omega

end Cert.Proof.Run
-- ==== Proof.Zero.lean ====
/-
  The loop that clears the zeros' buffer, as a rule.
-/
module

public import Idealize.ShloMosaic.Lib.WritesUnit
public import proofs.«01_k».proof.Proof.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The word a zero is. -/
abbrev zeroW : F .f32 := Scalar.ofBits .f32 0x00000000#32
abbrev oneW : F .f32 := Scalar.ofBits .f32 0x3F800000#32

/-- The loop that clears a buffer of 4096 entries: 256 trips of sixteen entries, each loaded and overwritten by zeros. -/
theorem wp_zero (d : Dev nD) (L : grid0.Coords) (m : Memref sig .scVector .vmem S4096 .f32) (f : Buf (Elt F) (m.view.loc (tileT d L)))
    (lp : Scf.Loop 32) (ok : lp.OK) (h256 : lp.trips = 256)
    (body : Fin lp.trips → BitVec 32 → Prog (TpuEff nD τ sig (Elt F) Λ₀ (.scVector (cV L) (jV L))) (BitVec 32))
    (o : Fin lp.trips → Fin 1 → ℕ) (ho : ∀ k, o k = ![16 * k.val]) (inb : ∀ k, ∀ a, o k a + S16.size a ≤ S4096.size a)
    (l : ∀ k, m.view.LoadsAt (Rect.unit (s := S4096) (o k) S16.size (inb k)).toLoadRect)
    (x : ∀ k, (m.access (Rect.unit (s := S4096) (o k) S16.size (inb k))).Stores Finset.univ)
    (hm : ∀ k, (Finset.univ : Finset (Rect.unit (s := S4096) (o k) S16.size (inb k)).shape.Idx) = Finset.univ
      ∨ ∀ a, (Rect.unit (s := S4096) (o k) S16.size (inb k)).stride a = 1)
    (hbody : ∀ k c, body k c = .op (.load m (Rect.unit (s := S4096) (o k) S16.size (inb k)).toLoadRect (l k)) fun _ =>
      .op (.store m (Rect.unit (s := S4096) (o k) S16.size (inb k)) (k0_pay1 (F := F)) Finset.univ (x k) (hm k)) fun _ => .ret 0#32)
    {β : Type} {kk : BitVec 32 → Prog (TpuEff nD τ sig (Elt F) Λ₀ (.scVector (cV L) (jV L))) β} {Q : β → sProp 𝕄} :
    (m.view.loc (tileT d L) ↦{fullShare} f)
      ⊢ iprop((∀ f', ⌜∀ j : S4096.Idx, m.view.read (Elt F) f' j = zeroW (F := F)⌝ -∗ (m.view.loc (tileT d L) ↦{fullShare} f')
            -∗ wp frame (wpE (defs₀ (F := F)) 𝒱₀ (tileT d L) none) Set.univ (kk 0#32) Q)
          -∗ wp frame (wpE (defs₀ (F := F)) 𝒱₀ (tileT d L) none) Set.univ (lp.for ok 0#32 body >>= kk) Q) := by
  have step : ∀ (k : Fin lp.trips) (acc : BitVec 32),
      (iprop(∃ f', ⌜acc = 0#32 ∧ ∀ j : S4096.Idx, (j 0).val < 16 * k.val → m.view.read (Elt F) f' j = zeroW (F := F)⌝ ∗ m.view.loc (tileT d L) ↦{fullShare} f') : sProp 𝕄)
        ⊢ wp frame (wpE (defs₀ (F := F)) 𝒱₀ (tileT d L) none) Set.univ (body k acc)
            (fun acc' => iprop(∃ f', ⌜acc' = 0#32 ∧ ∀ j : S4096.Idx, (j 0).val < 16 * (k.val + 1) → m.view.read (Elt F) f' j = zeroW (F := F)⌝
              ∗ m.view.loc (tileT d L) ↦{fullShare} f')) := by
    intro k acc
    rw [hbody]
    iintro ⟨%f', %ha, H⟩
    iapply (wp_load 𝒱₀ (tileT d L) none Set.univ (Finset.subset_univ _)) $$ H
    iintro H
    iapply (wp_store 𝒱₀ (tileT d L) none Set.univ (m := m) (r := Rect.unit (s := S4096) (o k) S16.size (inb k)) (f := f') (Finset.subset_univ _)) $$ H
    iintro H
    rw [wp_ret]
    imodintro
    iexists (m.view.writes (Elt F) f' [⟨Rect.unit (s := S4096) (o k) S16.size (inb k), k0_pay1 (F := F)⟩])
    isplitr
    · ipureintro
      refine ⟨rfl, fun j hj => ?_⟩
      rw [View.read_writes_cons_unit m.view f' (inb k) _ [] j (ho k)]
      split
      · rfl
      · rename_i hn
        refine ha.2 j (not_le.mp fun hle => hn fun a => ?_)
        obtain rfl : a = 0 := Fin.fin_one_eq_zero a
        exact ⟨hle, lt_of_lt_of_eq hj (by show _ = 16 * k.val + 16; omega)⟩
    · iexact H
  iintro H HK
  iapply (Scf.wp_for_bind frame (wpE (defs₀ (F := F)) 𝒱₀ (tileT d L) none) Set.univ lp.lb lp.ub lp.st ok 0#32 body
    (fun k acc => iprop(∃ f', ⌜acc = 0#32 ∧ ∀ j : S4096.Idx, (j 0).val < 16 * k → m.view.read (Elt F) f' j = zeroW (F := F)⌝ ∗ m.view.loc (tileT d L) ↦{fullShare} f'))
    step) $$ [H]
  · iexists f
    isplitr
    · ipureintro; exact ⟨rfl, fun j hj => absurd hj (by omega)⟩
    · iexact H
  iintro %acc ⟨%f', %ha, H⟩
  obtain ⟨rfl, ha⟩ := ha
  iapply HK $$ %f' [] [H]
  · ipureintro
    intro j
    have hj : (j 0).val < 4096 := (j 0).isLt
    have h256' : Scf.trips lp.lb lp.ub lp.st = 256 := h256
    exact ha j (by rw [h256']; omega)
  · iexact H

end Cert.Proof.Run
-- ==== Proof.Row.lean ====
/-
  A row of the result: its chunks, the block patched, and what the row holds at the end.
-/
module

public import proofs.«01_k».proof.Proof.Zero

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Eight chunks are a row -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A row of the input is its eight chunks. -/
theorem x_row (d : Dev nD) (r : ℕ) (f : Buf (Elt F) (xLoc d)) :
    (xLoc d ↦[rowSet r]{fullShare} f : sProp 𝕄) = bigSep Finset.univ fun p : Fin 8 => (xLoc d ↦[chunkSet r p.val]{fullShare} f : sProp 𝕄) := by
  rw [← chunk_cover r]
  exact pointsTo_biUnion (ℓ := xLoc d) Finset.univ (fun p : Fin 8 => chunkSet r p.val) (chunk_disjoint r)

/-- A row of the result is its eight chunks. -/
theorem s_row (d : Dev nD) (r : ℕ) (f : Buf (Elt F) (sLoc d)) :
    (sLoc d ↦[rowSet r]{fullShare} f : sProp 𝕄) = bigSep Finset.univ fun p : Fin 8 => (sLoc d ↦[chunkSet r p.val]{fullShare} f : sProp 𝕄) := by
  rw [← chunk_cover r]
  exact pointsTo_biUnion (ℓ := sLoc d) Finset.univ (fun p : Fin 8 => chunkSet r p.val) (chunk_disjoint r)

/-- The tile's name for a chunk of the input. -/
theorem x_chunk (d : Dev nD) (L : grid0.Coords) {r p : ℕ} (f : Buf (Elt F) (xLoc d)) {off : Fin 2 → ℕ}
    {inb : ∀ a, off a + S1x4096.size a ≤ S128x32768.size a} (h : off = ![r, 4096 * p]) :
    ((chunkOf xV off inb).view.loc (tileT d L) ↦[(chunkOf xV off inb).view.set]{fullShare} f : sProp 𝕄) = (xLoc d ↦[chunkSet r p]{fullShare} f) := by
  rw [set_xChunk h]

/-- The tile's name for a chunk of the result, whose entries are those of `g`. -/
theorem s_chunk (d : Dev nD) (L : grid0.Coords) {r p : ℕ} (hr : r < 128) (f g : Buf (Elt F) (sLoc d)) {off : Fin 2 → ℕ}
    {inb : ∀ a, off a + S1x4096.size a ≤ S128x32768.size a} (h : off = ![r, 4096 * p])
    (hg : ∀ j : S4096.Idx, (chunkOf oV off inb).view.read (Elt F) f j = g (ix r (4096 * p + (j 0).val))) :
    ((chunkOf oV off inb).view.loc (tileT d L) ↦[(chunkOf oV off inb).view.set]{fullShare} f : sProp 𝕄) = (sLoc d ↦[chunkSet r p]{fullShare} g) := by
  rw [set_oChunk h]
  refine pointsTo_congr (ℓ := sLoc d) (I := chunkSet r p) fun i hi => ?_
  obtain ⟨hi0, hi1⟩ := mem_chunkSet.1 hi
  have h1 : (i 1).val < 32768 := (i 1).isLt
  have e : i = ix r (4096 * p + (i 1).val % 4096) := by
    funext a; apply Fin.ext
    fin_cases a
    · show (i 0).val = r % 128
      omega
    · show (i 1).val = (4096 * p + (i 1).val % 4096) % 32768
      omega
  have := hg (fun a => ⟨(i 1).val % S4096.size a, Nat.mod_lt _ (by fin_cases a; decide)⟩)
  rw [read_oChunk hr h] at this
  rw [e]
  exact this

/-- The tile's name for the patched block, whose entries are those of `g`. -/
theorem s_patch (d : Dev nD) (L : grid0.Coords) {r p : ℕ} (hr : r < 128) (f g : Buf (Elt F) (sLoc d)) {off : Fin 2 → ℕ}
    {inb : ∀ a, off a + S1x16.size a ≤ S128x32768.size a} (h : off = ![r, 16 * p])
    (hg : ∀ j : S16.Idx, (patchOf oV off inb).view.read (Elt F) f j = g (ix r (16 * p + (j 0).val))) :
    ((patchOf oV off inb).view.loc (tileT d L) ↦[(patchOf oV off inb).view.set]{fullShare} f : sProp 𝕄) = (sLoc d ↦[patchSet r p]{fullShare} g) := by
  rw [set_oPatch h]
  refine pointsTo_congr (ℓ := sLoc d) (I := patchSet r p) fun i hi => ?_
  obtain ⟨hi0, hi1⟩ := mem_patchSet.1 hi
  have h1 : (i 1).val < 32768 := (i 1).isLt
  have e : i = ix r (16 * p + (i 1).val % 16) := by
    funext a; apply Fin.ext
    fin_cases a
    · show (i 0).val = r % 128
      omega
    · show (i 1).val = (16 * p + (i 1).val % 16) % 32768
      omega
  have := hg (fun a => ⟨(i 1).val % S16.size a, Nat.mod_lt _ (by fin_cases a; decide)⟩)
  rw [read_oPatch hr h] at this
  rw [e]
  exact this

/-- The tile's row of the input, in the tile's own names. -/
theorem x_apart (d : Dev nD) (L : grid0.Coords) (f : Buf (Elt F) (xLoc d)) :
    (xLoc d ↦[rowSet (rowOf L)]{fullShare} f : sProp 𝕄)
      = iprop(((chunkOf xV (k0_off1 L) (k0_off1_inb L)).view.loc (tileT d L) ↦[(chunkOf xV (k0_off1 L) (k0_off1_inb L)).view.set]{fullShare} f)
        ∗ ((chunkOf xV (k0_off2 L) (k0_off2_inb L)).view.loc (tileT d L) ↦[(chunkOf xV (k0_off2 L) (k0_off2_inb L)).view.set]{fullShare} f)
        ∗ ((chunkOf xV (k0_off3 L) (k0_off3_inb L)).view.loc (tileT d L) ↦[(chunkOf xV (k0_off3 L) (k0_off3_inb L)).view.set]{fullShare} f)
        ∗ ((chunkOf xV (k0_off4 L) (k0_off4_inb L)).view.loc (tileT d L) ↦[(chunkOf xV (k0_off4 L) (k0_off4_inb L)).view.set]{fullShare} f)
        ∗ ((chunkOf xV (k0_off5 L) (k0_off5_inb L)).view.loc (tileT d L) ↦[(chunkOf xV (k0_off5 L) (k0_off5_inb L)).view.set]{fullShare} f)
        ∗ ((chunkOf xV (k0_off6 L) (k0_off6_inb L)).view.loc (tileT d L) ↦[(chunkOf xV (k0_off6 L) (k0_off6_inb L)).view.set]{fullShare} f)
        ∗ ((chunkOf xV (k0_off7 L) (k0_off7_inb L)).view.loc (tileT d L) ↦[(chunkOf xV (k0_off7 L) (k0_off7_inb L)).view.set]{fullShare} f)
        ∗ ((chunkOf xV (k0_off8 L) (k0_off8_inb L)).view.loc (tileT d L) ↦[(chunkOf xV (k0_off8 L) (k0_off8_inb L)).view.set]{fullShare} f)) := by
  rw [x_row, bigSep_fin8, x_chunk (p := 0) d L f (k0_off1_eq L), x_chunk (p := 1) d L f (k0_off2_eq L), x_chunk (p := 2) d L f (k0_off3_eq L), x_chunk (p := 3) d L f (k0_off4_eq L), x_chunk (p := 4) d L f (k0_off5_eq L), x_chunk (p := 5) d L f (k0_off6_eq L), x_chunk (p := 6) d L f (k0_off7_eq L), x_chunk (p := 7) d L f (k0_off8_eq L)]
  rfl

/-- The tile's row of the result, in the tile's own names: chunks that read as `g` are the row at `g`. -/
theorem s_apart (d : Dev nD) (L : grid0.Coords) (g f0 f1 f2 f3 f4 f5 f6 f7 : Buf (Elt F) (sLoc d))
    (h0 : ∀ j : S4096.Idx, (chunkOf oV (k0_off1 L) (k0_off1_inb L)).view.read (Elt F) f0 j = g (ix (rowOf L) (0 + (j 0).val)))
    (h1 : ∀ j : S4096.Idx, (chunkOf oV (k0_off2 L) (k0_off2_inb L)).view.read (Elt F) f1 j = g (ix (rowOf L) (4096 + (j 0).val)))
    (h2 : ∀ j : S4096.Idx, (chunkOf oV (k0_off3 L) (k0_off3_inb L)).view.read (Elt F) f2 j = g (ix (rowOf L) (8192 + (j 0).val)))
    (h3 : ∀ j : S4096.Idx, (chunkOf oV (k0_off4 L) (k0_off4_inb L)).view.read (Elt F) f3 j = g (ix (rowOf L) (12288 + (j 0).val)))
    (h4 : ∀ j : S4096.Idx, (chunkOf oV (k0_off5 L) (k0_off5_inb L)).view.read (Elt F) f4 j = g (ix (rowOf L) (16384 + (j 0).val)))
    (h5 : ∀ j : S4096.Idx, (chunkOf oV (k0_off6 L) (k0_off6_inb L)).view.read (Elt F) f5 j = g (ix (rowOf L) (20480 + (j 0).val)))
    (h6 : ∀ j : S4096.Idx, (chunkOf oV (k0_off7 L) (k0_off7_inb L)).view.read (Elt F) f6 j = g (ix (rowOf L) (24576 + (j 0).val)))
    (h7 : ∀ j : S4096.Idx, (chunkOf oV (k0_off8 L) (k0_off8_inb L)).view.read (Elt F) f7 j = g (ix (rowOf L) (28672 + (j 0).val)))
    :
    (iprop(((chunkOf oV (k0_off1 L) (k0_off1_inb L)).view.loc (tileT d L) ↦[(chunkOf oV (k0_off1 L) (k0_off1_inb L)).view.set]{fullShare} f0)
        ∗ ((chunkOf oV (k0_off2 L) (k0_off2_inb L)).view.loc (tileT d L) ↦[(chunkOf oV (k0_off2 L) (k0_off2_inb L)).view.set]{fullShare} f1)
        ∗ ((chunkOf oV (k0_off3 L) (k0_off3_inb L)).view.loc (tileT d L) ↦[(chunkOf oV (k0_off3 L) (k0_off3_inb L)).view.set]{fullShare} f2)
        ∗ ((chunkOf oV (k0_off4 L) (k0_off4_inb L)).view.loc (tileT d L) ↦[(chunkOf oV (k0_off4 L) (k0_off4_inb L)).view.set]{fullShare} f3)
        ∗ ((chunkOf oV (k0_off5 L) (k0_off5_inb L)).view.loc (tileT d L) ↦[(chunkOf oV (k0_off5 L) (k0_off5_inb L)).view.set]{fullShare} f4)
        ∗ ((chunkOf oV (k0_off6 L) (k0_off6_inb L)).view.loc (tileT d L) ↦[(chunkOf oV (k0_off6 L) (k0_off6_inb L)).view.set]{fullShare} f5)
        ∗ ((chunkOf oV (k0_off7 L) (k0_off7_inb L)).view.loc (tileT d L) ↦[(chunkOf oV (k0_off7 L) (k0_off7_inb L)).view.set]{fullShare} f6)
        ∗ ((chunkOf oV (k0_off8 L) (k0_off8_inb L)).view.loc (tileT d L) ↦[(chunkOf oV (k0_off8 L) (k0_off8_inb L)).view.set]{fullShare} f7)) : sProp 𝕄)
      = (sLoc d ↦[rowSet (rowOf L)]{fullShare} g) := by
  rw [s_row, bigSep_fin8, s_chunk (p := 0) d L (rowOf_lt L) f0 g (k0_off1_eq L) h0, s_chunk (p := 1) d L (rowOf_lt L) f1 g (k0_off2_eq L) h1, s_chunk (p := 2) d L (rowOf_lt L) f2 g (k0_off3_eq L) h2, s_chunk (p := 3) d L (rowOf_lt L) f3 g (k0_off4_eq L) h3, s_chunk (p := 4) d L (rowOf_lt L) f4 g (k0_off5_eq L) h4, s_chunk (p := 5) d L (rowOf_lt L) f5 g (k0_off6_eq L) h5, s_chunk (p := 6) d L (rowOf_lt L) f6 g (k0_off7_eq L) h6, s_chunk (p := 7) d L (rowOf_lt L) f7 g (k0_off8_eq L) h7]
  rfl

/-! ## The row a tile leaves -/

/-- The array all of whose rows are the unit vector of place `w`. -/
def hot (w : BitVec 32) : S128x32768.Idx → F .f32 := fun i => if (i 1).val = w.toNat then oneW else zeroW

/-- The row of zeros and the patched block apart, and the two put back. -/
theorem patch_apart (d : Dev nD) (r p : ℕ) :
    (sLoc d ↦[rowSet r]{fullShare} (fun _ => zeroW : Buf (Elt F) (sLoc d)) : sProp 𝕄)
      ⊢ iprop((sLoc d ↦[patchSet r p]{fullShare} (fun _ => zeroW : Buf (Elt F) (sLoc d)))
        ∗ (sLoc d ↦[rowSet r \ patchSet r p]{fullShare} (fun _ => zeroW : Buf (Elt F) (sLoc d)))) :=
  (pointsTo_split_subset (ℓ := sLoc d) (patch_subset r p)).1

theorem patch_back (d : Dev nD) (r : ℕ) (w : BitVec 32) :
    (iprop((sLoc d ↦[patchSet r (w.toNat / 16)]{fullShare} (hot w : Buf (Elt F) (sLoc d)))
        ∗ (sLoc d ↦[rowSet r \ patchSet r (w.toNat / 16)]{fullShare} (fun _ => zeroW : Buf (Elt F) (sLoc d)))) : sProp 𝕄)
      ⊢ (sLoc d ↦[rowSet r]{fullShare} (hot w : Buf (Elt F) (sLoc d))) := by
  have h : (sLoc d ↦[rowSet r \ patchSet r (w.toNat / 16)]{fullShare} (fun _ => zeroW : Buf (Elt F) (sLoc d)) : sProp 𝕄)
      = (sLoc d ↦[rowSet r \ patchSet r (w.toNat / 16)]{fullShare} (hot w : Buf (Elt F) (sLoc d))) := by
    refine pointsTo_congr (ℓ := sLoc d) fun i hi => ?_
    obtain ⟨h1, h2⟩ := Finset.mem_sdiff.1 hi
    have h3 : ¬ (i 1).val = w.toNat := fun h => h2 (mem_patchSet.2 ⟨mem_rowSet.1 h1, by rw [h]⟩)
    exact (if_neg h3).symm
  rw [h]
  exact (pointsTo_split_subset (ℓ := sLoc d) (patch_subset r (w.toNat / 16))).2

/-- An entry of the patch is the entry of the unit vector where the patch goes. -/
theorem hot_patch {r : ℕ} {w : BitVec 32} (hw : w.toNat < 32768) (j : S16.Idx) :
    (if (j 0).val = w.toNat % 16 then oneW else zeroW) = hot (F := F) w (ix r (16 * (w.toNat / 16) + (j 0).val)) := by
  have hj : (j 0).val < 16 := (j 0).isLt
  unfold hot
  rw [ix_col (show 16 * (w.toNat / 16) + (j 0).val < 32768 by omega)]
  by_cases h : (j 0).val = w.toNat % 16
  · rw [if_pos h, if_pos (by omega)]
  · rw [if_neg h, if_neg (by omega)]

/-- The eight chunks cleared are the row of zeros, the block to patch apart under the tile's own name. -/
theorem s_cleared (d : Dev nD) (L : grid0.Coords) (fo : Buf (Elt F) (sLoc d)) (w : S4096.Idx → Elt F .f32) (hw : ∀ j, w j = zeroW (F := F))
    (v : BitVec 32) (h : k0_off34 L v = ![rowOf L, 16 * (v.toNat / 16)]) (inb : ∀ a, k0_off34 L v a + S1x16.size a ≤ S128x32768.size a) :
    (iprop(((chunkOf oV (k0_off1 L) (k0_off1_inb L)).view.loc (tileT d L) ↦[(chunkOf oV (k0_off1 L) (k0_off1_inb L)).view.set]{fullShare} (chunkOf oV (k0_off1 L) (k0_off1_inb L)).view.writes (Elt F) fo [⟨Rect.whole S4096, w⟩])
        ∗ ((chunkOf oV (k0_off2 L) (k0_off2_inb L)).view.loc (tileT d L) ↦[(chunkOf oV (k0_off2 L) (k0_off2_inb L)).view.set]{fullShare} (chunkOf oV (k0_off2 L) (k0_off2_inb L)).view.writes (Elt F) fo [⟨Rect.whole S4096, w⟩])
        ∗ ((chunkOf oV (k0_off3 L) (k0_off3_inb L)).view.loc (tileT d L) ↦[(chunkOf oV (k0_off3 L) (k0_off3_inb L)).view.set]{fullShare} (chunkOf oV (k0_off3 L) (k0_off3_inb L)).view.writes (Elt F) fo [⟨Rect.whole S4096, w⟩])
        ∗ ((chunkOf oV (k0_off4 L) (k0_off4_inb L)).view.loc (tileT d L) ↦[(chunkOf oV (k0_off4 L) (k0_off4_inb L)).view.set]{fullShare} (chunkOf oV (k0_off4 L) (k0_off4_inb L)).view.writes (Elt F) fo [⟨Rect.whole S4096, w⟩])
        ∗ ((chunkOf oV (k0_off5 L) (k0_off5_inb L)).view.loc (tileT d L) ↦[(chunkOf oV (k0_off5 L) (k0_off5_inb L)).view.set]{fullShare} (chunkOf oV (k0_off5 L) (k0_off5_inb L)).view.writes (Elt F) fo [⟨Rect.whole S4096, w⟩])
        ∗ ((chunkOf oV (k0_off6 L) (k0_off6_inb L)).view.loc (tileT d L) ↦[(chunkOf oV (k0_off6 L) (k0_off6_inb L)).view.set]{fullShare} (chunkOf oV (k0_off6 L) (k0_off6_inb L)).view.writes (Elt F) fo [⟨Rect.whole S4096, w⟩])
        ∗ ((chunkOf oV (k0_off7 L) (k0_off7_inb L)).view.loc (tileT d L) ↦[(chunkOf oV (k0_off7 L) (k0_off7_inb L)).view.set]{fullShare} (chunkOf oV (k0_off7 L) (k0_off7_inb L)).view.writes (Elt F) fo [⟨Rect.whole S4096, w⟩])
        ∗ ((chunkOf oV (k0_off8 L) (k0_off8_inb L)).view.loc (tileT d L) ↦[(chunkOf oV (k0_off8 L) (k0_off8_inb L)).view.set]{fullShare} (chunkOf oV (k0_off8 L) (k0_off8_inb L)).view.writes (Elt F) fo [⟨Rect.whole S4096, w⟩])) : sProp 𝕄)
      ⊢ iprop(((patchOf oV (k0_off34 L v) inb).view.loc (tileT d L) ↦[(patchOf oV (k0_off34 L v) inb).view.set]{fullShare} (fun _ => zeroW : Buf (Elt F) (sLoc d)))
        ∗ (sLoc d ↦[rowSet (rowOf L) \ patchSet (rowOf L) (v.toNat / 16)]{fullShare} (fun _ => zeroW : Buf (Elt F) (sLoc d)))) := by
  have hc : ∀ (off : Fin 2 → ℕ) (inb : ∀ a, off a + S1x4096.size a ≤ S128x32768.size a) (j : S4096.Idx),
      (chunkOf oV off inb).view.read (Elt F) ((chunkOf oV off inb).view.writes (Elt F) fo [⟨Rect.whole S4096, w⟩]) j = zeroW := by
    intro off inb j
    rw [View.read_writes_whole]
    exact hw j
  rw [s_apart d L (fun _ => zeroW) _ _ _ _ _ _ _ _ (hc _ _) (hc _ _) (hc _ _) (hc _ _) (hc _ _) (hc _ _) (hc _ _) (hc _ _),
    s_patch d L (rowOf_lt L) (fun _ => zeroW) (fun _ => zeroW) h fun j => read_oPatch (rowOf_lt L) h _ j]
  exact patch_apart d _ _

/-- The block patched and the rest of the row are the unit vector's row. -/
theorem s_patched (d : Dev nD) (L : grid0.Coords) (v : BitVec 32) (hv : v.toNat < 32768) (h : k0_off34 L v = ![rowOf L, 16 * (v.toNat / 16)])
    (inb : ∀ a, k0_off34 L v a + S1x16.size a ≤ S128x32768.size a) (f : Buf (Elt F) (sLoc d))
    (hf : ∀ j : S16.Idx, (patchOf oV (k0_off34 L v) inb).view.read (Elt F) f j = if (j 0).val = v.toNat % 16 then oneW else zeroW) :
    (iprop(((patchOf oV (k0_off34 L v) inb).view.loc (tileT d L) ↦[(patchOf oV (k0_off34 L v) inb).view.set]{fullShare} f)
        ∗ (sLoc d ↦[rowSet (rowOf L) \ patchSet (rowOf L) (v.toNat / 16)]{fullShare} (fun _ => zeroW : Buf (Elt F) (sLoc d)))) : sProp 𝕄)
      ⊢ (sLoc d ↦[rowSet (rowOf L)]{fullShare} (hot v : Buf (Elt F) (sLoc d))) := by
  rw [s_patch d L (rowOf_lt L) f (hot v) h fun j => (hf j).trans (hot_patch hv j)]
  exact patch_back d _ _

end Cert.Proof.Run
-- ==== Proof.Tile.lean ====
/-
  The tile's program, run once at a symbolic tile.
-/
module

public import proofs.«01_k».proof.Proof.Pick
public import proofs.«01_k».proof.Proof.Row

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a chunk buffer holds when its copy has landed: the columns of the tile's row from the chunk's first. -/
theorem landed (d : Dev nD) (L : grid0.Coords) (m : Memref sig .scVector .vmem S4096 .f32) (f : Buf (Elt F) (m.view.loc (tileT d L)))
    (fx : Buf (Elt F) (xLoc d)) (b : ℕ) {off : Fin 2 → ℕ} {inb : ∀ a, off a + S1x4096.size a ≤ S128x32768.size a} (h : off = ![rowOf L, b])
    (w : S4096.Idx → Elt F .f32) (hw : w = (chunkOf xV off inb).view.read (Elt F) fx) (j : S4096.Idx) :
    m.view.read (Elt F) (m.view.write (Elt F) f w Finset.univ) j = fx (ix (rowOf L) (b + (j 0).val)) := by
  rw [View.read_write_univ, hw]
  exact read_xChunk (rowOf_lt L) h fx j

/-- The tile's program: from the tile's row of the input and of the result, both back, the result's row the unit vector
    of the place picked; the tile's buffers and counters as they were found. -/
theorem tile_run [∀ e, Nonempty (Elt F e)] (d : Dev nD) (L : grid0.Coords) (fx : Buf (Elt F) (xLoc d)) (fo : Buf (Elt F) (sLoc d))
    (O : CellTallies nD τ sig (HIx 1)) (W : Waits sig (HIx 1))
    (_plan : Transfers.BatchOf (tileT d L) (SemLoc.dma (sig := sig) cc0_scratch18.sem) 8 (windows := true))
    (fb0 : Buf (Elt F) ((tileT d L).loc cc0_scratch0))
    (fb1 : Buf (Elt F) ((tileT d L).loc cc0_scratch1))
    (fb2 : Buf (Elt F) ((tileT d L).loc cc0_scratch2))
    (fb3 : Buf (Elt F) ((tileT d L).loc cc0_scratch3))
    (fb4 : Buf (Elt F) ((tileT d L).loc cc0_scratch4))
    (fb5 : Buf (Elt F) ((tileT d L).loc cc0_scratch5))
    (fb6 : Buf (Elt F) ((tileT d L).loc cc0_scratch6))
    (fb7 : Buf (Elt F) ((tileT d L).loc cc0_scratch7))
    (fbz : Buf (Elt F) ((tileT d L).loc cc0_scratch8))
    (fbp : Buf (Elt F) ((tileT d L).loc cc0_scratch9))
    :
    (iprop((xLoc d ↦[rowSet (rowOf L)]{fullShare} fx)
      ∗ (sLoc d ↦[rowSet (rowOf L)]{fullShare} fo)
      ∗ (b0.view.loc (tileT d L) ↦{fullShare} fb0)
      ∗ (b1.view.loc (tileT d L) ↦{fullShare} fb1)
      ∗ (b2.view.loc (tileT d L) ↦{fullShare} fb2)
      ∗ (b3.view.loc (tileT d L) ↦{fullShare} fb3)
      ∗ (b4.view.loc (tileT d L) ↦{fullShare} fb4)
      ∗ (b5.view.loc (tileT d L) ↦{fullShare} fb5)
      ∗ (b6.view.loc (tileT d L) ↦{fullShare} fb6)
      ∗ (b7.view.loc (tileT d L) ↦{fullShare} fb7)
      ∗ (bz.view.loc (tileT d L) ↦{fullShare} fbz)
      ∗ (bp.view.loc (tileT d L) ↦{fullShare} fbp)
      ∗ semVal (tileT d L, SemLoc.dma cc0_scratch10.sem) 0
      ∗ semVal (tileT d L, SemLoc.dma cc0_scratch11.sem) 0
      ∗ semVal (tileT d L, SemLoc.dma cc0_scratch12.sem) 0
      ∗ semVal (tileT d L, SemLoc.dma cc0_scratch13.sem) 0
      ∗ semVal (tileT d L, SemLoc.dma cc0_scratch14.sem) 0
      ∗ semVal (tileT d L, SemLoc.dma cc0_scratch15.sem) 0
      ∗ semVal (tileT d L, SemLoc.dma cc0_scratch16.sem) 0
      ∗ semVal (tileT d L, SemLoc.dma cc0_scratch17.sem) 0
      ∗ semVal (tileT d L, SemLoc.dma cc0_scratch18.sem) 0
      ∗ semVal (tileT d L, SemLoc.dma cc0_scratch19.sem) 0
      ∗ owes (tileT d L) O W
      ∗ Transfers.MayWaits (tileT d L) none O) : sProp 𝕄)
      ⊢ wp frame (wpE (defs₀ (F := F)) 𝒱₀ (tileT d L) none) Set.univ
          (cc0__sc_body L xV (Memref.isWhole_whole _) oV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) bz (Memref.isWhole_whole _) bp (Memref.isWhole_whole _)
            cc0_scratch10 cc0_scratch11 cc0_scratch12 cc0_scratch13 cc0_scratch14 cc0_scratch15 cc0_scratch16 cc0_scratch17 cc0_scratch18 cc0_scratch19)
          fun _ => iprop((xLoc d ↦[rowSet (rowOf L)]{fullShare} fx)
      ∗ (sLoc d ↦[rowSet (rowOf L)]{fullShare} (hot (pick fun n => fx (ix (rowOf L) n)) : Buf (Elt F) (sLoc d)))
      ∗ (∃ f, (tileT d L).loc cc0_scratch0 ↦{fullShare} f)
      ∗ (∃ f, (tileT d L).loc cc0_scratch1 ↦{fullShare} f)
      ∗ (∃ f, (tileT d L).loc cc0_scratch2 ↦{fullShare} f)
      ∗ (∃ f, (tileT d L).loc cc0_scratch3 ↦{fullShare} f)
      ∗ (∃ f, (tileT d L).loc cc0_scratch4 ↦{fullShare} f)
      ∗ (∃ f, (tileT d L).loc cc0_scratch5 ↦{fullShare} f)
      ∗ (∃ f, (tileT d L).loc cc0_scratch6 ↦{fullShare} f)
      ∗ (∃ f, (tileT d L).loc cc0_scratch7 ↦{fullShare} f)
      ∗ (∃ f, (tileT d L).loc cc0_scratch8 ↦{fullShare} f)
      ∗ (∃ f, (tileT d L).loc cc0_scratch9 ↦{fullShare} f)
      ∗ semVal (tileT d L, SemLoc.dma cc0_scratch10.sem) 0
      ∗ semVal (tileT d L, SemLoc.dma cc0_scratch11.sem) 0
      ∗ semVal (tileT d L, SemLoc.dma cc0_scratch12.sem) 0
      ∗ semVal (tileT d L, SemLoc.dma cc0_scratch13.sem) 0
      ∗ semVal (tileT d L, SemLoc.dma cc0_scratch14.sem) 0
      ∗ semVal (tileT d L, SemLoc.dma cc0_scratch15.sem) 0
      ∗ semVal (tileT d L, SemLoc.dma cc0_scratch16.sem) 0
      ∗ semVal (tileT d L, SemLoc.dma cc0_scratch17.sem) 0
      ∗ semVal (tileT d L, SemLoc.dma cc0_scratch18.sem) 0
      ∗ semVal (tileT d L, SemLoc.dma cc0_scratch19.sem) 0
      ∗ ∃ W', ⌜∀ p ∈ W', p ∈ W ∨ p.2 = none⌝ ∗ owes (tileT d L) O W') := by
  set g : ℕ → F .f32 := fun n => fx (ix (rowOf L) n) with hg
  rw [cc0__sc_body_eq_skeleton]; unfold cc0__sc_body_skel
  rw [k0_part1_eq_skeleton, k0_part2_eq_skeleton, k0_part3_eq_skeleton, k0_part4_eq_skeleton, k0_part5_eq_skeleton, k0_part6_eq_skeleton, k0_part7_eq_skeleton]
  rw [x_apart, ← s_apart d L fo fo fo fo fo fo fo fo fo (fun j => read_oChunk (rowOf_lt L) (k0_off1_eq L) fo j) (fun j => read_oChunk (rowOf_lt L) (k0_off2_eq L) fo j) (fun j => read_oChunk (rowOf_lt L) (k0_off3_eq L) fo j) (fun j => read_oChunk (rowOf_lt L) (k0_off4_eq L) fo j) (fun j => read_oChunk (rowOf_lt L) (k0_off5_eq L) fo j) (fun j => read_oChunk (rowOf_lt L) (k0_off6_eq L) fo j) (fun j => read_oChunk (rowOf_lt L) (k0_off7_eq L) fo j) (fun j => read_oChunk (rowOf_lt L) (k0_off8_eq L) fo j)]
  iintro ⟨⟨Hx0, Hx1, Hx2, Hx3, Hx4, Hx5, Hx6, Hx7⟩, ⟨Ho0, Ho1, Ho2, Ho3, Ho4, Ho5, Ho6, Ho7⟩, Hb0, Hb1, Hb2, Hb3, Hb4, Hb5, Hb6, Hb7, Hbz, Hbp, Hs0, Hs1, Hs2, Hs3, Hs4, Hs5, Hs6, Hs7, Hs8, Hs9, HO, Hmw⟩
  sl_exec (disch := exact View.amount_pos _ _ (show 0 < S4096.numel by decide))
  iapply (wp_zero d L bz fbz k0_t1_loop k0_t1_ok (by decide) _ k0_off9 k0_off9_eq k0_off9_inb _ _ _ (fun _ _ => rfl)) $$ Hbz
  iintro %fz %hz Hbz
  sl_exec (disch := exact View.amount_pos _ _ (show 0 < S4096.numel by decide))
  iapply (wp_scan d L b0 _ g 0 ?hf k0_t2_loop k0_t2_ok (by decide) _ k0_off10 k0_off11 k0_off10_eq k0_off11_eq k0_off10_inb k0_off11_inb _
    ?hs _ _ ?hb _ ?hi) $$ Hb0
  case hf => exact landed d L b0 fb0 fx 0 (k0_off1_eq L) _ rfl
  case hb => exact fun _ _ => rfl
  case hs => exact fun k c x y => trip_words 0 k.val 0#32 rfl c x y
  case hi => rfl
  iintro Hb0
  sl_exec (disch := exact View.amount_pos _ _ (show 0 < S4096.numel by decide))
  iapply (wp_scan d L b1 _ g 128 ?hf k0_t3_loop k0_t3_ok (by decide) _ k0_off12 k0_off13 k0_off12_eq k0_off13_eq k0_off12_inb k0_off13_inb _
    ?hs _ _ ?hb _ ?hi) $$ Hb1
  case hf => exact landed d L b1 fb1 fx 4096 (k0_off2_eq L) _ rfl
  case hb => exact fun _ _ => rfl
  case hs => exact fun k c x y => trip_words 4096 k.val 4096#32 rfl c x y
  case hi => rfl
  iintro Hb1
  sl_exec (disch := exact View.amount_pos _ _ (show 0 < S4096.numel by decide))
  iapply (wp_scan d L b2 _ g 256 ?hf k0_t4_loop k0_t4_ok (by decide) _ k0_off14 k0_off15 k0_off14_eq k0_off15_eq k0_off14_inb k0_off15_inb _
    ?hs _ _ ?hb _ ?hi) $$ Hb2
  case hf => exact landed d L b2 fb2 fx 8192 (k0_off3_eq L) _ rfl
  case hb => exact fun _ _ => rfl
  case hs => exact fun k c x y => trip_words 8192 k.val 8192#32 rfl c x y
  case hi => rfl
  iintro Hb2
  sl_exec (disch := exact View.amount_pos _ _ (show 0 < S4096.numel by decide))
  iapply (wp_scan d L b3 _ g 384 ?hf k0_t5_loop k0_t5_ok (by decide) _ k0_off16 k0_off17 k0_off16_eq k0_off17_eq k0_off16_inb k0_off17_inb _
    ?hs _ _ ?hb _ ?hi) $$ Hb3
  case hf => exact landed d L b3 fb3 fx 12288 (k0_off4_eq L) _ rfl
  case hb => exact fun _ _ => rfl
  case hs => exact fun k c x y => trip_words 12288 k.val 12288#32 rfl c x y
  case hi => rfl
  iintro Hb3
  sl_exec (disch := exact View.amount_pos _ _ (show 0 < S4096.numel by decide))
  iapply (wp_scan d L b4 _ g 512 ?hf k0_t6_loop k0_t6_ok (by decide) _ k0_off18 k0_off19 k0_off18_eq k0_off19_eq k0_off18_inb k0_off19_inb _
    ?hs _ _ ?hb _ ?hi) $$ Hb4
  case hf => exact landed d L b4 fb4 fx 16384 (k0_off5_eq L) _ rfl
  case hb => exact fun _ _ => rfl
  case hs => exact fun k c x y => trip_words 16384 k.val 16384#32 rfl c x y
  case hi => rfl
  iintro Hb4
  sl_exec (disch := exact View.amount_pos _ _ (show 0 < S4096.numel by decide))
  iapply (wp_scan d L b5 _ g 640 ?hf k0_t7_loop k0_t7_ok (by decide) _ k0_off20 k0_off21 k0_off20_eq k0_off21_eq k0_off20_inb k0_off21_inb _
    ?hs _ _ ?hb _ ?hi) $$ Hb5
  case hf => exact landed d L b5 fb5 fx 20480 (k0_off6_eq L) _ rfl
  case hb => exact fun _ _ => rfl
  case hs => exact fun k c x y => trip_words 20480 k.val 20480#32 rfl c x y
  case hi => rfl
  iintro Hb5
  sl_exec (disch := exact View.amount_pos _ _ (show 0 < S4096.numel by decide))
  iapply (wp_scan d L b6 _ g 768 ?hf k0_t8_loop k0_t8_ok (by decide) _ k0_off22 k0_off23 k0_off22_eq k0_off23_eq k0_off22_inb k0_off23_inb _
    ?hs _ _ ?hb _ ?hi) $$ Hb6
  case hf => exact landed d L b6 fb6 fx 24576 (k0_off7_eq L) _ rfl
  case hb => exact fun _ _ => rfl
  case hs => exact fun k c x y => trip_words 24576 k.val 24576#32 rfl c x y
  case hi => rfl
  iintro Hb6
  sl_exec (disch := exact View.amount_pos _ _ (show 0 < S4096.numel by decide))
  iapply (wp_scan d L b7 _ g 896 ?hf k0_t9_loop k0_t9_ok (by decide) _ k0_off24 k0_off25 k0_off24_eq k0_off25_eq k0_off24_inb k0_off25_inb _
    ?hs _ _ ?hb _ ?hi) $$ Hb7
  case hf => exact landed d L b7 fb7 fx 28672 (k0_off8_eq L) _ rfl
  case hb => exact fun _ _ => rfl
  case hs => exact fun k c x y => trip_words 28672 k.val 28672#32 rfl c x y
  case hi => rfl
  iintro Hb7
  sl_exec (disch := exact View.amount_pos _ _ (show 0 < S4096.numel by decide))
  have hv : tile_run.sl.v226 d L fx = pick g := words_pick g (scan g 1024) rfl
  have hchk : k0_chk1 L (tile_run.sl.v226 d L fx) := by rw [hv]; exact chk_of_lt L _ (pick_lt g)
  sl_exec (disch := exact View.amount_pos _ _ (show 0 < S4096.numel by decide))
  have hz' : ∀ j, tile_run.sl.dma0_8 fz j = zeroW (F := F) := hz
  have hlt : (tile_run.sl.v226 d L fx).toNat < 32768 := by rw [hv]; exact pick_lt g
  ihave HS := (s_cleared d L fo (tile_run.sl.dma0_8 fz) hz' (tile_run.sl.v226 d L fx) (off34_eq L _) (k0_off34_inb L _ hchk)) $$ [Ho0 Ho1 Ho2 Ho3 Ho4 Ho5 Ho6 Ho7]
  · iframe
  icases HS with ⟨HP, HR⟩
  sl_exec (disch := exact View.amount_pos _ _ (show 0 < S16.numel by decide))
  have hp : ∀ j : S16.Idx, (patchOf oV (k0_off34 L (tile_run.sl.v226 d L fx)) (k0_off34_inb L _ hchk)).view.read (Elt F)
      ((patchOf oV (k0_off34 L (tile_run.sl.v226 d L fx)) (k0_off34_inb L _ hchk)).view.writes (Elt F) (fun _ => zeroW) [⟨Rect.whole S16, tile_run.sl.dma0_9 d L fx fbp⟩]) j
        = if (j 0).val = (tile_run.sl.v226 d L fx).toNat % 16 then oneW else zeroW := by
    intro j
    have hj : (j 0).val < 16 := (j 0).isLt
    rw [View.read_writes_whole]
    show bp.view.read (Elt F) (bp.view.writes (Elt F) fbp [⟨Rect.unit ![0] S16.size inb_S16_S16_0, tile_run.sl.r_12 d L fx⟩]) j = _
    refine (View.read_writes_cons_unit_of_mem bp.view fbp inb_S16_S16_0 _ [] j j rfl (fun a => ?_)).trans (patch_words _ _ j)
    fin_cases a
    exact (Nat.zero_add _).symm
  ihave HS := (s_patched d L (tile_run.sl.v226 d L fx) hlt (off34_eq L _) (k0_off34_inb L _ hchk) _ hp) $$ [HP HR]
  · iframe
  rw [wp_ret]
  imodintro
  isplitl [Hx0 Hx1 Hx2 Hx3 Hx4 Hx5 Hx6 Hx7]
  · iframe
  isplitl [HS]
  · rw [hv]; iexact HS
  isplitl [Hb0]
  · iexists _; iexact Hb0
  isplitl [Hb1]
  · iexists _; iexact Hb1
  isplitl [Hb2]
  · iexists _; iexact Hb2
  isplitl [Hb3]
  · iexists _; iexact Hb3
  isplitl [Hb4]
  · iexists _; iexact Hb4
  isplitl [Hb5]
  · iexists _; iexact Hb5
  isplitl [Hb6]
  · iexists _; iexact Hb6
  isplitl [Hb7]
  · iexists _; iexact Hb7
  isplitl [Hbz]
  · iexists _; iexact Hbz
  isplitl [Hbp]
  · iexists _; iexact Hbp
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [Hs9]
  · iexact Hs9
  iexists _
  isplitr
  rotate_left
  · iexact HO
  · ipureintro
    intro p hp
    repeat (rcases Finset.mem_insert.1 hp with rfl | hp; exact Or.inr rfl)
    exact Or.inl hp

end Cert.Proof.Run
-- ==== Proof.Oblige.lean ====
/-
  What the launch asks of a tile: its own storage taken apart, the row it is given and the row it gives back, its task.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's own storage, apart -/

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Members of a set, named one by one and all different, taken out of it. -/
theorem bigSep_take {I : Type} [DecidableEq I] {n : ℕ} (S : Finset I) (g : Fin n → I) (hg : Function.Injective g) (hS : ∀ k, g k ∈ S)
    (Φ : I → sProp 𝕄) : bigSep S Φ = iprop((bigSep Finset.univ fun k => Φ (g k)) ∗ bigSep (S \ Finset.univ.image g) Φ) := by
  rw [← SparseCore.bigSep_image_of_injOn hg.injOn Φ, ← SparseCore.bigSep_union' Finset.disjoint_sdiff,
    Finset.union_sdiff_of_subset (fun x hx => by obtain ⟨k, -, rfl⟩ := Finset.mem_image.mp hx; exact hS k)]

/-- The scratch buffers and the semaphores of a tile, in the kernel's order. -/
def bufAt : Fin 10 → Ref sig .scVector := ![cc0_scratch0, cc0_scratch1, cc0_scratch2, cc0_scratch3, cc0_scratch4, cc0_scratch5, cc0_scratch6, cc0_scratch7, cc0_scratch8, cc0_scratch9]
def semAt : Fin 10 → SemLoc sig := ![SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem]

theorem bufAt_inj : Function.Injective bufAt := by decide
theorem semAt_inj : Function.Injective semAt := by decide
theorem bufAt_owner (c : Fin τ.nSC) (i : Fin τ.nSub) (k : Fin 10) : ((Proc.scVector c i).devRef (bufAt k)).owner = .proc (.scVector c i) := by
  fin_cases k <;> rfl
theorem semAt_scoped (k : Fin 10) : (semAt k).isScoped .scVector = true := by
  revert k; decide

section Storage

variable (d : Dev nD) (L : grid0.Coords)

/-- The tile's buffers beyond the ten (none are named), and its semaphores beyond the ten. -/
def otherBufs : sProp 𝕄 :=
  bigSep (ownRefs (tileT d L).2 \ Finset.univ.image fun k => (tileT d L).2.devRef (bufAt k)) fun b => iprop(∃ f, ((d, b) : Loc nD τ sig) ↦{fullShare} f)
def otherSems : sProp 𝕄 :=
  bigSep (ownCells (tileT d L) \ Finset.univ.image fun k => (tileT d L, semAt k)) fun g => semVal g 0

theorem ownBufs_tile : (ownBufs (tileT d L) : sProp 𝕄) = iprop(((∃ f, (tileT d L).loc cc0_scratch0 ↦{fullShare} f) ∗ (∃ f, (tileT d L).loc cc0_scratch1 ↦{fullShare} f) ∗ (∃ f, (tileT d L).loc cc0_scratch2 ↦{fullShare} f) ∗ (∃ f, (tileT d L).loc cc0_scratch3 ↦{fullShare} f) ∗ (∃ f, (tileT d L).loc cc0_scratch4 ↦{fullShare} f) ∗ (∃ f, (tileT d L).loc cc0_scratch5 ↦{fullShare} f) ∗ (∃ f, (tileT d L).loc cc0_scratch6 ↦{fullShare} f) ∗ (∃ f, (tileT d L).loc cc0_scratch7 ↦{fullShare} f) ∗ (∃ f, (tileT d L).loc cc0_scratch8 ↦{fullShare} f) ∗ (∃ f, (tileT d L).loc cc0_scratch9 ↦{fullShare} f)) ∗ otherBufs d L) := by
  unfold SparseCore.Cfg.ownBufs otherBufs
  rw [bigSep_take (ownRefs (tileT d L).2) (fun k => (tileT d L).2.devRef (bufAt k)) ((Proc.devRef_injective _).comp bufAt_inj)
    (fun k => SparseCore.Cfg.mem_ownRefs_of_owner (bufAt_owner (cV L) (jV L) k)), bigSep_fin10]
  rfl

theorem ownSems0_tile : (ownSems0 (tileT d L) : sProp 𝕄) = iprop((semVal (tileT d L, SemLoc.dma cc0_scratch10.sem) 0 ∗ semVal (tileT d L, SemLoc.dma cc0_scratch11.sem) 0 ∗ semVal (tileT d L, SemLoc.dma cc0_scratch12.sem) 0 ∗ semVal (tileT d L, SemLoc.dma cc0_scratch13.sem) 0 ∗ semVal (tileT d L, SemLoc.dma cc0_scratch14.sem) 0 ∗ semVal (tileT d L, SemLoc.dma cc0_scratch15.sem) 0 ∗ semVal (tileT d L, SemLoc.dma cc0_scratch16.sem) 0 ∗ semVal (tileT d L, SemLoc.dma cc0_scratch17.sem) 0 ∗ semVal (tileT d L, SemLoc.dma cc0_scratch18.sem) 0 ∗ semVal (tileT d L, SemLoc.dma cc0_scratch19.sem) 0) ∗ otherSems d L) := by
  unfold SparseCore.Cfg.ownSems0 otherSems
  rw [bigSep_take (ownCells (tileT d L)) (fun k => (tileT d L, semAt k)) (fun a b e => semAt_inj (Prod.mk.inj e).2)
    (fun k => mem_ownCells.mpr ⟨rfl, semAt_scoped k⟩), bigSep_fin10]
  rfl

end Storage

/-! ## What goes to a tile and what comes back -/

variable (m : (ℓ : Loc nD τ sig) → Buf (Elt F) ℓ)

/-- The row a tile is given: its row of the input and its row of the result, as they stood at the launch. -/
def given (d : Dev nD) (r : ℕ) : sProp 𝕄 :=
  iprop((xLoc d ↦[rowSet r]{fullShare} m (xLoc d)) ∗ (sLoc d ↦[rowSet r]{fullShare} m (sLoc d)))
/-- The row it gives back: the input's unchanged, the result's one at the column picked and zero elsewhere. -/
def taken (d : Dev nD) (r : ℕ) : sProp 𝕄 :=
  iprop((xLoc d ↦[rowSet r]{fullShare} m (xLoc d))
    ∗ (sLoc d ↦[rowSet r]{fullShare} (hot (pick fun n => m (xLoc d) (ix r n)) : Buf (Elt F) (sLoc d))))

instance given_storable (d : Dev nD) (r : ℕ) : BI.Storable (upEmb : UEmb _ 𝕄) (given m d r) := by unfold given; infer_instance
instance taken_storable (d : Dev nD) (r : ℕ) : BI.Storable (upEmb : UEmb _ 𝕄) (taken m d r) := by unfold taken; infer_instance

/-- The row of tile `i` of SparseCore `c`. -/
def tileRow (c i : ℕ) : ℕ := 2 * i + c + 96

def P : (K (F := F)).Pay (nD := nD) (Val := Elt F) (Name := ℕ) (U := UU) where
  st := fun q d c => bigSep Finset.univ fun i : Fin ((K (F := F)).nSub q) => given m d (tileRow c.val i.val)
  dn := fun q d c => bigSep Finset.univ fun i : Fin ((K (F := F)).nSub q) => taken m d (tileRow c.val i.val)
  go := fun _ d c i => given m d (tileRow c.val i.val)
  td := fun _ d c i => taken m d (tileRow c.val i.val)
  x := fun _ _ => iprop(emp)

instance P_storable : (P (F := F) m).IsStorable where
  st _ d c := by unfold P; infer_instance
  dn _ d c := by unfold P; infer_instance
  go _ d c i := by unfold P; infer_instance
  td _ d c i := by unfold P; infer_instance

theorem vecSplit : (K (F := F)).VecSplit' (P m) 0 := by
  intro d c
  unfold P
  iintro H; imodintro
  isplitl [H]; · iexact H
  iintro H; iexact H

/-! ## The tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) bz (Memref.isWhole_whole _) bp (Memref.isWhole_whole _)
            cc0_scratch10 cc0_scratch11 cc0_scratch12 cc0_scratch13 cc0_scratch14 cc0_scratch15 cc0_scratch16 cc0_scratch17 cc0_scratch18 cc0_scratch19) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's program from what the launch hands it to what it hands back. -/
theorem tile_body [∀ e, Nonempty (Elt F e)] (d : Dev nD) (L : grid0.Coords) (O : CellTallies nD τ sig (HIx 1)) (W : Waits sig (HIx 1))
    (hO : ∀ g, O g none = 0) :
    (iprop(levAts (K (F := F)).L (K (F := F)).lev ∗ emp ∗ given m d (rowOf L) ∗ scopedBufs (tileT d L) ∗ scopedSems0 (tileT d L)
      ∗ owes (tileT d L) O W) : sProp 𝕄)
      ⊢ wp frame (wpE (defs₀ (F := F)) 𝒱₀ (tileT d L) none) Set.univ (cc0__sc_body L xV (Memref.isWhole_whole _) oV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) bz (Memref.isWhole_whole _) bp (Memref.isWhole_whole _)
            cc0_scratch10 cc0_scratch11 cc0_scratch12 cc0_scratch13 cc0_scratch14 cc0_scratch15 cc0_scratch16 cc0_scratch17 cc0_scratch18 cc0_scratch19)
        fun _ => iprop(taken m d (rowOf L) ∗ scopedBufs (tileT d L) ∗ scopedSems0 (tileT d L)
          ∗ ∃ W', ⌜∀ p ∈ W', p ∈ W ∨ p.2 = none⌝ ∗ owes (tileT d L) O W') := by
  rw [(K (F := F)).scopedBufs_V facts d (cV L) (jV L), SparseCore.Cfg.scopedSems0_V (Val := Elt F) d (cV L) (jV L), ownBufs_tile, ownSems0_tile]
  unfold given taken
  iintro ⟨#Hlv, -, ⟨Hx, Hs⟩, ⟨⟨⟨%fb0, HB0⟩, ⟨%fb1, HB1⟩, ⟨%fb2, HB2⟩, ⟨%fb3, HB3⟩, ⟨%fb4, HB4⟩, ⟨%fb5, HB5⟩, ⟨%fb6, HB6⟩, ⟨%fb7, HB7⟩, ⟨%fb8, HB8⟩, ⟨%fb9, HB9⟩⟩, Hbufs⟩, ⟨⟨HS0, HS1, HS2, HS3, HS4, HS5, HS6, HS7, HS8, HS9⟩, Hsems⟩, HO⟩
  ihave Hmw := ((K (F := F)).mayWaits_none (thr := tileT d L) hO) $$ Hlv
  iapply (wp_wand_r frame _ Set.univ)
  isplitr [Hbufs Hsems]
  · iapply (tile_run d L (m (xLoc d)) (m (sLoc d)) O W trivial fb0 fb1 fb2 fb3 fb4 fb5 fb6 fb7 fb8 fb9)
    isplitl [Hx]; · iexact Hx
    isplitl [Hs]; · iexact Hs
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HO]; · iexact HO
    iexact Hmw
  iintro %_ ⟨Hx, Hs, HB0, HB1, HB2, HB3, HB4, HB5, HB6, HB7, HB8, HB9, HS0, HS1, HS2, HS3, HS4, HS5, HS6, HS7, HS8, HS9, HW⟩
  isplitl [Hx Hs]
  · isplitl [Hx]; · iexact Hx
    iexact Hs
  isplitl [HB0 HB1 HB2 HB3 HB4 HB5 HB6 HB7 HB8 HB9 Hbufs]
  · isplitl [HB0 HB1 HB2 HB3 HB4 HB5 HB6 HB7 HB8 HB9]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      iexact HB9
    · iexact Hbufs
  isplitl [HS0 HS1 HS2 HS3 HS4 HS5 HS6 HS7 HS8 HS9 Hsems]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    · iexact Hsems
  iexact HW

theorem tileObl [∀ e, Nonempty (Elt F e)] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

end Cert.Proof.Run
-- ==== Proof.Halves.lean ====
/-
  The two arrays of the SparseCore call, dealt to the tiles row by row and put back.
-/
module

public import proofs.«01_k».proof.Proof.Oblige

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The rows the tiles work on: 96 to 127. -/
def lowRows : Finset S128x32768.Idx := Finset.univ.filter fun i => 96 ≤ (i 0).val
/-- The rows of SparseCore `c`'s tiles. -/
def coreRows (c : Fin 2) : Finset S128x32768.Idx := (Finset.univ : Finset (Fin 16)).biUnion fun i => rowSet (tileRow c.val i.val)

theorem mem_lowRows {i : S128x32768.Idx} : i ∈ lowRows ↔ 96 ≤ (i 0).val := by simp [lowRows]

theorem tiles_disjoint (c : Fin 2) : ∀ i ∈ (Finset.univ : Finset (Fin 16)), ∀ j ∈ (Finset.univ : Finset (Fin 16)), i ≠ j →
    Disjoint (rowSet (tileRow c.val i.val)) (rowSet (tileRow c.val j.val)) := by
  intro i _ j _ h
  rw [Finset.disjoint_left]
  intro k hk hk'
  rw [mem_rowSet] at hk hk'
  unfold tileRow at hk hk'
  exact h (Fin.ext (by omega))

theorem cores_disjoint : ∀ c ∈ (Finset.univ : Finset (Fin 2)), ∀ c' ∈ (Finset.univ : Finset (Fin 2)), c ≠ c' →
    Disjoint (coreRows c) (coreRows c') := by
  intro c _ c' _ h
  rw [Finset.disjoint_left]
  intro k hk hk'
  simp only [coreRows, Finset.mem_biUnion, Finset.mem_univ, true_and, mem_rowSet, tileRow] at hk hk'
  obtain ⟨i, hi⟩ := hk
  obtain ⟨j, hj⟩ := hk'
  have := c.isLt
  have := c'.isLt
  exact h (Fin.ext (by omega))

theorem cores_cover : (Finset.univ : Finset (Fin 2)).biUnion coreRows = lowRows := by
  ext k
  have hk : (k 0).val < 128 := (k 0).isLt
  simp only [coreRows, Finset.mem_biUnion, Finset.mem_univ, true_and, mem_rowSet, tileRow, mem_lowRows]
  constructor
  · rintro ⟨c, i, h⟩; omega
  · intro h
    exact ⟨⟨((k 0).val - 96) % 2, by omega⟩, ⟨((k 0).val - 96) / 2, by omega⟩, by dsimp only; omega⟩

/-- The tiles' rows of the input, tile by tile. -/
theorem x_tiles (d : Dev nD) (f : Buf (Elt F) (xLoc d)) :
    (xLoc d ↦[lowRows]{fullShare} f : sProp 𝕄)
      = bigSep Finset.univ fun c : Fin 2 => bigSep Finset.univ fun i : Fin 16 => (xLoc d ↦[rowSet (tileRow c.val i.val)]{fullShare} f : sProp 𝕄) := by
  rw [← cores_cover]
  refine (pointsTo_biUnion (ℓ := xLoc d) Finset.univ coreRows cores_disjoint).trans (bigSep_congr fun c _ => ?_)
  exact pointsTo_biUnion (ℓ := xLoc d) Finset.univ (fun i : Fin 16 => rowSet (tileRow c.val i.val)) (tiles_disjoint c)

/-- The tiles' rows of their result, tile by tile. -/
theorem s_tiles (d : Dev nD) (f : Buf (Elt F) (sLoc d)) :
    (sLoc d ↦[lowRows]{fullShare} f : sProp 𝕄)
      = bigSep Finset.univ fun c : Fin 2 => bigSep Finset.univ fun i : Fin 16 => (sLoc d ↦[rowSet (tileRow c.val i.val)]{fullShare} f : sProp 𝕄) := by
  rw [← cores_cover]
  refine (pointsTo_biUnion (ℓ := sLoc d) Finset.univ coreRows cores_disjoint).trans (bigSep_congr fun c _ => ?_)
  exact pointsTo_biUnion (ℓ := sLoc d) Finset.univ (fun i : Fin 16 => rowSet (tileRow c.val i.val)) (tiles_disjoint c)

/-- The tiles' result whole: rows 96 on one-hot at the column picked, the rest as it was. -/
def tiled (x s : S128x32768.Idx → F .f32) : S128x32768.Idx → F .f32 := fun i =>
  if 96 ≤ (i 0).val then hot (pick fun n => x (ix (i 0).val n)) i else s i

variable (m : (ℓ : Loc nD τ sig) → Buf (Elt F) ℓ)

theorem s_done (d : Dev nD) :
    (bigSep Finset.univ fun c : Fin 2 => bigSep Finset.univ fun i : Fin 16 => (sLoc d ↦[rowSet (tileRow c.val i.val)]{fullShare}
        (hot (pick fun n => m (xLoc d) (ix (tileRow c.val i.val) n)) : Buf (Elt F) (sLoc d)) : sProp 𝕄))
      = (sLoc d ↦[lowRows]{fullShare} (tiled (m (xLoc d)) (m (sLoc d)) : Buf (Elt F) (sLoc d)) : sProp 𝕄) := by
  rw [s_tiles]
  refine bigSep_congr fun c _ => bigSep_congr fun i _ => ?_
  refine pointsTo_congr (ℓ := sLoc d) fun k hk => ?_
  rw [mem_rowSet] at hk
  have h96 : 96 ≤ (k 0).val := by rw [hk]; unfold tileRow; omega
  show _ = tiled _ _ k
  unfold tiled
  rw [if_pos h96, hk]

/-- What the tiles are handed at the call's start. -/
theorem st0_eq (d : Dev nD) : (bigSep Finset.univ fun c : Fin ((K (F := F)).nCore 0) => (P m).st 0 d c)
    = iprop((xLoc d ↦[lowRows]{fullShare} m (xLoc d)) ∗ (sLoc d ↦[lowRows]{fullShare} m (sLoc d))) := by
  rw [x_tiles, s_tiles]
  show (bigSep Finset.univ fun c : Fin 2 => bigSep Finset.univ fun i : Fin 16 => given m d (tileRow c.val i.val)) = _
  unfold given
  simp only [bigSep_sep']

/-- What they hand back at its end. -/
theorem dn0_eq (d : Dev nD) : (bigSep Finset.univ fun c : Fin ((K (F := F)).nCore 0) => (P m).dn 0 d c)
    = iprop((xLoc d ↦[lowRows]{fullShare} m (xLoc d))
        ∗ (sLoc d ↦[lowRows]{fullShare} (tiled (m (xLoc d)) (m (sLoc d)) : Buf (Elt F) (sLoc d)))) := by
  rw [x_tiles, ← s_done]
  show (bigSep Finset.univ fun c : Fin 2 => bigSep Finset.univ fun i : Fin 16 => taken m d (tileRow c.val i.val)) = _
  unfold taken
  simp only [bigSep_sep']

/-- The result's other rows, untouched, complete it. -/
theorem s_join (d : Dev nD) :
    iprop((sLoc d ↦[lowRows]{fullShare} (tiled (m (xLoc d)) (m (sLoc d)) : Buf (Elt F) (sLoc d)))
        ∗ (sLoc d ↦[Finset.univ \ lowRows]{fullShare} m (sLoc d)))
      ⊢ (sLoc d ↦{fullShare} (tiled (m (xLoc d)) (m (sLoc d)) : Buf (Elt F) (sLoc d)) : sProp 𝕄) := by
  have h : (sLoc d ↦[Finset.univ \ lowRows]{fullShare} m (sLoc d) : sProp 𝕄)
      = (sLoc d ↦[Finset.univ \ lowRows]{fullShare} (tiled (m (xLoc d)) (m (sLoc d)) : Buf (Elt F) (sLoc d)) : sProp 𝕄) := by
    refine pointsTo_congr (ℓ := sLoc d) fun k hk => ?_
    have hk' : ¬ 96 ≤ (k 0).val := fun h => (Finset.mem_sdiff.mp hk).2 (mem_lowRows.mpr h)
    show _ = tiled _ _ k
    unfold tiled
    rw [if_neg hk']
  rw [h]
  exact (pointsTo_split_subset (ℓ := sLoc d) (Finset.subset_univ lowRows)).2

end Cert.Proof.Run
-- ==== Proof.TcA.lean ====
/-
  The first TensorCore body.
-/
module

public import proofs.«01_k».proof.Proof.Base
public import Idealize.ShloMosaic.Lib.VecWindow

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first TensorCore body, at its staging buffers: the block is read and the picked places are stored. -/
theorem argmax_run (d : Dev nD) (i : grid1.Coords) (M₁ : Memref sig .tc .vmem S96x32768 .f32) (h₁ : M₁.IsWhole)
    (M₂ : Memref sig .tc .vmem S1x1x96 .i32) (h₂ : M₂.IsWhole) (X : S96x32768.Idx → Elt F .f32) (Y : S1x1x96.Idx → Elt F .i32) :
    (iprop(owns (d.tc : Thread nD τ) M₁ fullShare X ∗ owns (d.tc : Thread nD τ) M₂ fullShare Y) : sProp 𝕄)
      ⊢ wp frame (wpE (defs₀ (F := F)) 𝒱₀ (d.tc : Thread nD τ) none) Set.univ (cc1__tc_argmax_block i M₁ h₁ M₂ h₂)
          fun _ => iprop(owns (d.tc : Thread nD τ) M₁ fullShare X ∗ owns (d.tc : Thread nD τ) M₂ fullShare (k1_pay1 X)) := by
  rw [cc1__tc_argmax_block_eq_skeleton]
  unfold cc1__tc_argmax_block_skel owns
  iintro ⟨⟨%fx, %hx, Hx⟩, %fo, %ho, Ho⟩
  sl_exec
  sl_step
  isplitl [Hx]
  · iexists fx; isplitr; · ipureintro; exact hx
    iexact Hx
  · iexists _; isplitr; rotate_left; · iexact Ho
    ipureintro
    rw [View.read_writes_full, View.readAt_full, hx]

end Cert.Proof.Run
-- ==== Proof.TcB.lean ====
/-
  The second TensorCore body.
-/
module

public import proofs.«01_k».proof.Proof.Base
public import Idealize.ShloMosaic.Lib.VecWindow
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The word of place `n` in the list of picked columns. -/
def wordAt (X : S1x1x96.Idx → Elt F .i32) (n : Fin 96) : BitVec 32 :=
  X (fun a => ⟨(![0, 0, n.val] : Fin 3 → Nat) a % S1x1x96.size a, Nat.mod_lt _ (by fin_cases a <;> decide)⟩)

omit [FloatOps F] in
/-- A one-word load reads the word its offset names. -/
theorem word_read (M : Memref sig .tc .smem S1x1x96 .i32) (fx : (M.view.ty).Contents (Elt F)) {off : Fin 3 → Nat}
    (inb : ∀ a, off a + (![1, 1, 1] : Fin 3 → Nat) a ≤ S1x1x96.size a)
    (x : (Rect.unit (s := S1x1x96) off ![1, 1, 1] inb).toLoadRect.shape.Idx) :
    View.readAt (Elt F) M.view (Rect.unit (s := S1x1x96) off ![1, 1, 1] inb).toLoadRect fx x
      = wordAt (M.view.read (Elt F) fx) ⟨off 2 % 96, Nat.mod_lt _ (by decide)⟩ := by
  refine congrArg (M.view.read (Elt F) fx) (funext fun a => Fin.ext ?_)
  have h0 := inb 0; have h1 := inb 1; have h2 := inb 2
  have x0 : (x 0).val < 1 := (x 0).isLt
  have x1 : (x 1).val < 1 := (x 1).isLt
  have x2 : (x 2).val < 1 := (x 2).isLt
  change off 0 + 1 ≤ 1 at h0; change off 1 + 1 ≤ 1 at h1; change off 2 + 1 ≤ 96 at h2
  fin_cases a
  · show off 0 + 1 * (x 0).val = 0 % 1
    omega
  · show off 1 + 1 * (x 1).val = 0 % 1
    omega
  · show off 2 + 1 * (x 2).val = off 2 % 96 % 96
    omega

set_option maxRecDepth 65536 in
/-- The ninety-six words side by side are the list of the words. -/
theorem pay1_words (v : Fin 96 → BitVec 32) :
    k2_pay1 (F := F)
      (v 94) (v 95) (k2_pay3 (F := F) (v 0)) (k2_pay4 (F := F) (v 1)) (k2_pay5 (F := F) (v 2)) (k2_pay6 (F := F) (v 3))
      (k2_pay7 (F := F) (v 4)) (k2_pay8 (F := F) (v 5)) (k2_pay9 (F := F) (v 6)) (k2_pay10 (F := F) (v 7))
      (k2_pay11 (F := F) (v 8)) (k2_pay12 (F := F) (v 9)) (k2_pay13 (F := F) (v 10)) (k2_pay14 (F := F) (v 11))
      (k2_pay15 (F := F) (v 12)) (k2_pay16 (F := F) (v 13)) (k2_pay17 (F := F) (v 14)) (k2_pay18 (F := F) (v 15))
      (k2_pay19 (F := F) (v 16)) (k2_pay20 (F := F) (v 17)) (k2_pay21 (F := F) (v 18)) (k2_pay22 (F := F) (v 19))
      (k2_pay23 (F := F) (v 20)) (k2_pay24 (F := F) (v 21)) (k2_pay25 (F := F) (v 22)) (k2_pay26 (F := F) (v 23))
      (k2_pay27 (F := F) (v 24)) (k2_pay28 (F := F) (v 25)) (k2_pay29 (F := F) (v 26)) (k2_pay30 (F := F) (v 27))
      (k2_pay31 (F := F) (v 28)) (k2_pay32 (F := F) (v 29)) (k2_pay33 (F := F) (v 30)) (k2_pay34 (F := F) (v 31))
      (k2_pay35 (F := F) (v 32)) (k2_pay36 (F := F) (v 33)) (k2_pay37 (F := F) (v 34)) (k2_pay38 (F := F) (v 35))
      (k2_pay39 (F := F) (v 36)) (k2_pay40 (F := F) (v 37)) (k2_pay41 (F := F) (v 38)) (k2_pay42 (F := F) (v 39))
      (k2_pay43 (F := F) (v 40)) (k2_pay44 (F := F) (v 41)) (k2_pay45 (F := F) (v 42)) (k2_pay46 (F := F) (v 43))
      (k2_pay47 (F := F) (v 44)) (k2_pay48 (F := F) (v 45)) (k2_pay49 (F := F) (v 46)) (k2_pay50 (F := F) (v 47))
      (k2_pay51 (F := F) (v 48)) (k2_pay52 (F := F) (v 49)) (k2_pay53 (F := F) (v 50)) (k2_pay54 (F := F) (v 51))
      (k2_pay55 (F := F) (v 52)) (k2_pay56 (F := F) (v 53)) (k2_pay57 (F := F) (v 54)) (k2_pay58 (F := F) (v 55))
      (k2_pay59 (F := F) (v 56)) (k2_pay60 (F := F) (v 57)) (k2_pay61 (F := F) (v 58)) (k2_pay62 (F := F) (v 59))
      (k2_pay63 (F := F) (v 60)) (k2_pay64 (F := F) (v 61)) (k2_pay65 (F := F) (v 62)) (k2_pay66 (F := F) (v 63))
      (k2_pay67 (F := F) (v 64)) (k2_pay68 (F := F) (v 65)) (k2_pay69 (F := F) (v 66)) (k2_pay70 (F := F) (v 67))
      (k2_pay71 (F := F) (v 68)) (k2_pay72 (F := F) (v 69)) (k2_pay73 (F := F) (v 70)) (k2_pay74 (F := F) (v 71))
      (k2_pay75 (F := F) (v 72)) (k2_pay76 (F := F) (v 73)) (k2_pay77 (F := F) (v 74)) (k2_pay78 (F := F) (v 75))
      (k2_pay79 (F := F) (v 76)) (k2_pay80 (F := F) (v 77)) (k2_pay81 (F := F) (v 78)) (k2_pay82 (F := F) (v 79))
      (k2_pay83 (F := F) (v 80)) (k2_pay84 (F := F) (v 81)) (k2_pay85 (F := F) (v 82)) (k2_pay86 (F := F) (v 83))
      (k2_pay87 (F := F) (v 84)) (k2_pay88 (F := F) (v 85)) (k2_pay89 (F := F) (v 86)) (k2_pay90 (F := F) (v 87))
      (k2_pay91 (F := F) (v 88)) (k2_pay92 (F := F) (v 89)) (k2_pay93 (F := F) (v 90)) (k2_pay94 (F := F) (v 91))
      (k2_pay95 (F := F) (v 92)) (k2_pay96 (F := F) (v 93))
      = fun j => v (j 0) := by
  funext j
  exact concatenate_ofFn_unit_apply (t := S96) (s₁ := S1) 0 (fun n _ => v n) (show Shape.Concatenates (List.replicate 96 S1) S96 0 by decide +kernel) rfl rfl j (j 0) rfl
    (fun a => ⟨0, by fin_cases a; decide⟩) (fun b hb => absurd (Subsingleton.elim _ _) hb)

set_option maxRecDepth 65536 in
set_option maxHeartbeats 4000000 in
/-- The second TensorCore body, at its staging buffers: the words are read and the one-hot rows stored. -/
theorem onehot_run (d : Dev nD) (i : grid2.Coords) (M₁ : Memref sig .tc .smem S1x1x96 .i32) (h₁ : M₁.IsWhole)
    (M₂ : Memref sig .tc .hbm S128x32768 .f32) (h₂ : M₂.IsWhole) (M₃ : Memref sig .tc .vmem S96x32768 .f32) (h₃ : M₃.IsWhole)
    (X : S1x1x96.Idx → Elt F .i32) (Y : S96x32768.Idx → Elt F .f32) :
    (iprop(owns (d.tc : Thread nD τ) M₁ fullShare X ∗ owns (d.tc : Thread nD τ) M₃ fullShare Y) : sProp 𝕄)
      ⊢ wp frame (wpE (defs₀ (F := F)) 𝒱₀ (d.tc : Thread nD τ) none) Set.univ (cc2__onehot_block i M₁ h₁ M₂ h₂ M₃ h₃)
          fun _ => iprop(owns (d.tc : Thread nD τ) M₁ fullShare X ∗ owns (d.tc : Thread nD τ) M₃ fullShare
            (k2_pay2 (F := F) (iota .tc S96x32768 32 [1] iota_S96x32768_d1_w32) (fun j => wordAt X (j 0)))) := by
  rw [cc2__onehot_block_eq_skeleton]
  unfold cc2__onehot_block_skel
  simp only [k2_part1_eq_skeleton, k2_part2_eq_skeleton, k2_part3_eq_skeleton, k2_part4_eq_skeleton, k2_part5_eq_skeleton, k2_part6_eq_skeleton, k2_part7_eq_skeleton, k2_part8_eq_skeleton]
  unfold k2_part1_skel k2_part2_skel k2_part3_skel k2_part4_skel k2_part5_skel k2_part6_skel k2_part7_skel k2_part8_skel owns
  iintro ⟨⟨%fx, %hx, Hx⟩, %fo, %ho, Ho⟩
  sl_exec
  sl_step
  isplitl [Hx]
  · iexists fx; isplitr; · ipureintro; exact hx
    iexact Hx
  · iexists _; isplitr; rotate_left; · iexact Ho
    ipureintro
    rw [View.read_writes_full]
    dsimp only [onehot_run.sl.r, onehot_run.sl.r_1, onehot_run.sl.r_2, onehot_run.sl.r_3, onehot_run.sl.r_4, onehot_run.sl.r_5, onehot_run.sl.r_6, onehot_run.sl.r_7, onehot_run.sl.r_8, onehot_run.sl.r_9, onehot_run.sl.r_10, onehot_run.sl.r_11, onehot_run.sl.r_12, onehot_run.sl.r_13, onehot_run.sl.r_14, onehot_run.sl.r_15, onehot_run.sl.r_16, onehot_run.sl.r_17, onehot_run.sl.r_18, onehot_run.sl.r_19, onehot_run.sl.r_20, onehot_run.sl.r_21, onehot_run.sl.r_22, onehot_run.sl.r_23, onehot_run.sl.r_24, onehot_run.sl.r_25, onehot_run.sl.r_26, onehot_run.sl.r_27, onehot_run.sl.r_28, onehot_run.sl.r_29, onehot_run.sl.r_30, onehot_run.sl.r_31, onehot_run.sl.r_32, onehot_run.sl.r_33, onehot_run.sl.r_34, onehot_run.sl.r_35, onehot_run.sl.r_36, onehot_run.sl.r_37, onehot_run.sl.r_38, onehot_run.sl.r_39, onehot_run.sl.r_40, onehot_run.sl.r_41, onehot_run.sl.r_42, onehot_run.sl.r_43, onehot_run.sl.r_44, onehot_run.sl.r_45, onehot_run.sl.r_46, onehot_run.sl.r_47, onehot_run.sl.r_48, onehot_run.sl.r_49, onehot_run.sl.r_50, onehot_run.sl.r_51, onehot_run.sl.r_52, onehot_run.sl.r_53, onehot_run.sl.r_54, onehot_run.sl.r_55, onehot_run.sl.r_56, onehot_run.sl.r_57, onehot_run.sl.r_58, onehot_run.sl.r_59, onehot_run.sl.r_60, onehot_run.sl.r_61, onehot_run.sl.r_62, onehot_run.sl.r_63, onehot_run.sl.r_64, onehot_run.sl.r_65, onehot_run.sl.r_66, onehot_run.sl.r_67, onehot_run.sl.r_68, onehot_run.sl.r_69, onehot_run.sl.r_70, onehot_run.sl.r_71, onehot_run.sl.r_72, onehot_run.sl.r_73, onehot_run.sl.r_74, onehot_run.sl.r_75, onehot_run.sl.r_76, onehot_run.sl.r_77, onehot_run.sl.r_78, onehot_run.sl.r_79, onehot_run.sl.r_80, onehot_run.sl.r_81, onehot_run.sl.r_82, onehot_run.sl.r_83, onehot_run.sl.r_84, onehot_run.sl.r_85, onehot_run.sl.r_86, onehot_run.sl.r_87, onehot_run.sl.r_88, onehot_run.sl.r_89, onehot_run.sl.r_90, onehot_run.sl.r_91, onehot_run.sl.r_92, onehot_run.sl.r_93, onehot_run.sl.r_94, onehot_run.sl.r_95]
    simp only [word_read, hx,
      k2_off1_eq, k2_off2_eq, k2_off3_eq, k2_off4_eq, k2_off5_eq, k2_off6_eq, k2_off7_eq, k2_off8_eq, k2_off9_eq,
      k2_off10_eq, k2_off11_eq, k2_off12_eq, k2_off13_eq, k2_off14_eq, k2_off15_eq, k2_off16_eq, k2_off17_eq,
      k2_off18_eq, k2_off19_eq, k2_off20_eq, k2_off21_eq, k2_off22_eq, k2_off23_eq, k2_off24_eq, k2_off25_eq,
      k2_off26_eq, k2_off27_eq, k2_off28_eq, k2_off29_eq, k2_off30_eq, k2_off31_eq, k2_off32_eq, k2_off33_eq,
      k2_off34_eq, k2_off35_eq, k2_off36_eq, k2_off37_eq, k2_off38_eq, k2_off39_eq, k2_off40_eq, k2_off41_eq,
      k2_off42_eq, k2_off43_eq, k2_off44_eq, k2_off45_eq, k2_off46_eq, k2_off47_eq, k2_off48_eq, k2_off49_eq,
      k2_off50_eq, k2_off51_eq, k2_off52_eq, k2_off53_eq, k2_off54_eq, k2_off55_eq, k2_off56_eq, k2_off57_eq,
      k2_off58_eq, k2_off59_eq, k2_off60_eq, k2_off61_eq, k2_off62_eq, k2_off63_eq, k2_off64_eq, k2_off65_eq,
      k2_off66_eq, k2_off67_eq, k2_off68_eq, k2_off69_eq, k2_off70_eq, k2_off71_eq, k2_off72_eq, k2_off73_eq,
      k2_off74_eq, k2_off75_eq, k2_off76_eq, k2_off77_eq, k2_off78_eq, k2_off79_eq, k2_off80_eq, k2_off81_eq,
      k2_off82_eq, k2_off83_eq, k2_off84_eq, k2_off85_eq, k2_off86_eq, k2_off87_eq, k2_off88_eq, k2_off89_eq,
      k2_off90_eq, k2_off91_eq, k2_off92_eq, k2_off93_eq, k2_off94_eq, k2_off95_eq, k2_off96_eq]
    exact congrArg _ (pay1_words (wordAt X))

end Cert.Proof.Run
-- ==== Proof.Regs.lean ====
/-
  The two TensorCore calls as regions of the program.
-/
module

public import proofs.«01_k».proof.Proof.TcA
public import proofs.«01_k».proof.Proof.TcB
public import proofs.«01_k».proof.Proof.Gen.KernelIdeal.Points
public import proofs.«01_k».proof.Proof.Gen.KernelIdeal.Launch
public import Idealize.ShloMosaic.Lib.Pipeline.Regions

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents the two TensorCore calls pass on -/

/-- The first 96 rows of the input. -/
def topRows (X : S128x32768.Idx → Elt F .f32) : S96x32768.Idx → Elt F .f32 :=
  fun j => X (fun a => ⟨(j a).val, lt_of_lt_of_le (j a).isLt (by fin_cases a <;> decide)⟩)

/-- The one-hot rows of a list of words. -/
def hotRows (I : S1x1x96.Idx → Elt F .i32) : S96x32768.Idx → Elt F .f32 :=
  k2_pay2 (F := F) (iota .tc S96x32768 32 [1] iota_S96x32768_d1_w32) (fun j => wordAt I (j 0))

/-- An array with its first 96 rows overwritten. -/
def overRows (O : S128x32768.Idx → Elt F .f32) (H : S96x32768.Idx → Elt F .f32) : S128x32768.Idx → Elt F .f32 :=
  fun i => if h : (i 0).val < 96 then H (fun a => ⟨(i a).val, by fin_cases a; exact h; exact (i 1).isLt⟩) else O i

abbrev adm : (p : Fin 2) → (pcfgs (F := F) p).Adm := fun p => (cfgs p).toPCfg_adm
abbrev pinned : (p : Fin 2) → Pipeline.Cfg sig Λ₀ := Pipeline.pin (pcfgs (F := F)) adm

/-- The waits a TensorCore has recorded once the SparseCore call is over. -/
def recd (d : Dev nD) : Set (SemLoc sig × HIx 1) := {p | (K (F := F)).lev (SparseCore.T d, p.1) p.2 ≤ 8 * SparseCore.Cfg.Blocks.fst (Q := 1) (N := 1) 1}

section Regs

variable (X : (d : Dev nD) → Buf (Elt F) (xLoc d)) (I₀ I₁ : (d : Dev nD) → Buf (Elt F) (iLoc d)) (O : (d : Dev nD) → Buf (Elt F) (oLoc d))

/-- The first call's proof data: the input's first 96 rows come in, the list of places goes out. -/
def dat0 (d : Dev nD) : Pipeline.Dat τ (Elt F) (HIx 1) ℕ UU ℕ cfg1 d where
  A := fun | 0 => X d | 1 => I₀ d | ⟨_ + 2, h⟩ => absurd h (Nat.not_lt.2 (Nat.le_add_left _ _))
  after := fun | 0 => fun _ => topRows (X d) | 1 => fun _ => k1_pay1 (topRows (X d)) | ⟨_ + 2, h⟩ => absurd h (Nat.not_lt.2 (Nat.le_add_left _ _))
  Φ _ := Pipeline.scopedRest spec1 d
  q _ := fullShare
  owed _ := 0
  recorded _ := recd (F := F) d

/-- The second call's: the list of places comes in, the one-hot rows go out. -/
def dat1 (d : Dev nD) : Pipeline.Dat τ (Elt F) (HIx 1) ℕ UU ℕ cfg2 d where
  A := fun | 0 => I₁ d | 1 => O d | ⟨_ + 2, h⟩ => absurd h (Nat.not_lt.2 (Nat.le_add_left _ _))
  after := fun | 0 => fun _ => I₁ d | 1 => fun _ => hotRows (I₁ d) | ⟨_ + 2, h⟩ => absurd h (Nat.not_lt.2 (Nat.le_add_left _ _))
  Φ _ := Pipeline.scopedRest spec2 d
  q _ := fullShare
  owed _ := 0
  recorded _ := recd (F := F) d

def pdats : (p : Fin 2) → (d : Dev nD) → Pipeline.Dat τ (Elt F) (HIx 1) ℕ UU ℕ (pinned (F := F) p) d
  | 0 => dat0 X I₀ | 1 => dat1 I₁ O

/-! ## What the staging buffers hold when the bodies run -/

theorem before0_0 (d : Dev nD) (t : Fin cfg1.N) (g) : (dat0 X I₀ d).before 0 t g = topRows (X d) := by
  obtain rfl := fin_N1 t
  unfold Pipeline.Dat.before
  rw [if_pos (fetch1_0 _)]
  funext j
  have hm : (cfg1.win 0).moved (cfg1.grid.coords t1_0) j = true :=
    ((cfg1.win 0).moved_iff _ j).mpr fun a => by
      have := (j a).isLt
      unfold Pipeline.Window.xsize
      rw [(by decide : ∀ a, win1_0.clip (grid1.coords t1_0) a = none) a]; exact this
  unfold Pipeline.Dat.fetched Pipeline.Window.fill
  rw [dif_pos hm]
  refine congrArg (X d) (funext fun a => Fin.ext ?_)
  fin_cases a
  · show 0 + 1 * (j 0).val = (j 0).val
    omega
  · show 0 + 1 * (j 1).val = (j 1).val
    omega

theorem before1_0 (d : Dev nD) (t : Fin cfg2.N) (g) : (dat1 I₁ O d).before 0 t g = I₁ d := by
  obtain rfl := fin_N2 t
  unfold Pipeline.Dat.before
  rw [if_pos (fetch2_0 _)]
  funext j
  refine congrArg (I₁ d) (funext fun a => Fin.ext ?_)
  fin_cases a
  · show 0 + 1 * (j 0).val = (j 0).val
    omega
  · show 0 + 1 * (j 1).val = (j 1).val
    omega
  · show 0 + 1 * (j 2).val = (j 2).val
    omega

/-! ## The body obligations -/

theorem run0 (d : Dev nD) (t : Fin cfg1.N) (A B : sProp 𝕄) :
    iprop(A ∗ B ∗ (∃ g, owns (d.tc : Thread nD τ) (st1_0 t) fullShare ((dat0 X I₀ d).before 0 t g))
        ∗ (∃ g, owns (d.tc : Thread nD τ) (st1_1 t) fullShare ((dat0 X I₀ d).before 1 t g)))
      ⊢ wp frame (wpE (defs₀ (F := F)) 𝒱₀ (d.tc : Thread nD τ) none) Set.univ (bodyAt1 (F := F) t)
        fun _ => iprop(A ∗ B ∗ owns (d.tc : Thread nD τ) (st1_0 t) fullShare (topRows (X d))
          ∗ owns (d.tc : Thread nD τ) (st1_1 t) fullShare (k1_pay1 (topRows (X d)))) := by
  simp only [before0_0 X I₀ d t]
  iintro ⟨HA, HB, ⟨%g0, H0⟩, %g1, H1⟩
  iapply (wp_wand_r frame (wpE (defs₀ (F := F)) 𝒱₀ (d.tc : Thread nD τ) none) Set.univ)
  isplitl [H0 H1]
  · iapply (argmax_run d (grid1.coords t) (st1_0 t) _ (st1_1 t) _ (topRows (X d)) ((dat0 X I₀ d).before 1 t g1))
    isplitl [H0]; · iexact H0
    iexact H1
  iintro %_ ⟨H0, H1⟩
  isplitl [HA]; · iexact HA
  isplitl [HB]; · iexact HB
  isplitl [H0]; · iexact H0
  iexact H1

theorem run1 (d : Dev nD) (t : Fin cfg2.N) (A B : sProp 𝕄) :
    iprop(A ∗ B ∗ (∃ g, owns (d.tc : Thread nD τ) (st2_0 t) fullShare ((dat1 I₁ O d).before 0 t g))
        ∗ (∃ g, owns (d.tc : Thread nD τ) (st2_1 t) fullShare ((dat1 I₁ O d).before 1 t g)))
      ⊢ wp frame (wpE (defs₀ (F := F)) 𝒱₀ (d.tc : Thread nD τ) none) Set.univ (bodyAt2 (F := F) t)
        fun _ => iprop(A ∗ B ∗ owns (d.tc : Thread nD τ) (st2_0 t) fullShare (I₁ d)
          ∗ owns (d.tc : Thread nD τ) (st2_1 t) fullShare (hotRows (I₁ d))) := by
  simp only [before1_0 I₁ O d t]
  iintro ⟨HA, HB, ⟨%g0, H0⟩, %g1, H1⟩
  iapply (wp_wand_r frame (wpE (defs₀ (F := F)) 𝒱₀ (d.tc : Thread nD τ) none) Set.univ)
  isplitl [H0 H1]
  · iapply (onehot_run d (grid2.coords t) (st2_0 t) _ (Memref.whole main_v0) (Memref.isWhole_whole _) (st2_1 t) _ (I₁ d) ((dat1 I₁ O d).before 1 t g1))
    isplitl [H0]; · iexact H0
    iexact H1
  iintro %_ ⟨H0, H1⟩
  isplitl [HA]; · iexact HA
  isplitl [HB]; · iexact HB
  isplitl [H0]; · iexact H0
  iexact H1

theorem row0 (t : Fin cfg1.N) : defs₀ (F := F) .tc cfg1.body (cfg1.bodyArgs t (cfg1.slots t)) = bodyAt1 t := by
  rfl

theorem row1 (t : Fin cfg2.N) : defs₀ (F := F) .tc cfg2.body (cfg2.bodyArgs t (cfg2.slots t)) = bodyAt2 t := by
  rfl

theorem body0 (d : Dev nD) : Pipeline.BodyObligation (dat0 X I₀ d) (defs₀ (F := F)) 𝒱₀ none Set.univ := fun t => by
  rw [bigSep_W1, bigSep_W1, row0]
  have h := run0 X I₀ d t ((dat0 X I₀ d).Φ t.castSucc) ((dat0 X I₀ d).owesAt none t.castSucc)
  refine BIBase.Entails.trans ?_ (BIBase.Entails.trans h ((wp frame (wpE (defs₀ (F := F)) 𝒱₀ (d.tc : Thread nD τ) none) Set.univ (bodyAt1 (F := F) t)).mono fun _ => ?_))
  · clear h
    dsimp only
    refine BI.sep_mono (BI.Entails.refl _) (BI.sep_mono (BI.Entails.refl _) (BI.sep_mono ?_ ?_))
    · exact BI.Entails.refl _
    · exact BI.Entails.refl _
  · clear h
    have e : ∀ w x, cfg1.idle w x = false := fun _ _ => rfl
    have a0 : (dat0 X I₀ d).after 0 t = topRows (X d) := rfl
    have a1 : (dat0 X I₀ d).after 1 t = k1_pay1 (topRows (X d)) := by dsimp only [dat0]
    simp only [e, a0, a1]
    refine BI.sep_mono (BI.Entails.refl _) (BI.sep_mono (BI.Entails.refl _) (BI.sep_mono ?_ ?_))
    · exact BI.Entails.refl _
    · exact BI.Entails.refl _

theorem body1 (d : Dev nD) : Pipeline.BodyObligation (dat1 I₁ O d) (defs₀ (F := F)) 𝒱₀ none Set.univ := fun t => by
  rw [bigSep_W2, bigSep_W2, row1]
  have h := run1 I₁ O d t ((dat1 I₁ O d).Φ t.castSucc) ((dat1 I₁ O d).owesAt none t.castSucc)
  refine BIBase.Entails.trans ?_ (BIBase.Entails.trans h ((wp frame (wpE (defs₀ (F := F)) 𝒱₀ (d.tc : Thread nD τ) none) Set.univ (bodyAt2 (F := F) t)).mono fun _ => ?_))
  · clear h
    dsimp only
    refine BI.sep_mono (BI.Entails.refl _) (BI.sep_mono (BI.Entails.refl _) (BI.sep_mono ?_ ?_))
    · exact BI.Entails.refl _
    · exact BI.Entails.refl _
  · clear h
    have e : ∀ w x, cfg2.idle w x = false := fun _ _ => rfl
    have a0 : (dat1 I₁ O d).after 0 t = I₁ d := rfl
    have a1 : (dat1 I₁ O d).after 1 t = hotRows (I₁ d) := by dsimp only [dat1]
    simp only [e, a0, a1]
    refine BI.sep_mono (BI.Entails.refl _) (BI.sep_mono (BI.Entails.refl _) (BI.sep_mono ?_ ?_))
    · exact BI.Entails.refl _
    · exact BI.Entails.refl _

end Regs

end Cert.Proof.Run
-- ==== Proof.Segs.lean ====
/-
  The two TensorCore calls' entry and exit.
-/
module

public import proofs.«01_k».proof.Proof.Regs

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Segs

variable (X : (d : Dev nD) → Buf (Elt F) (xLoc d)) (I₀ I₁ : (d : Dev nD) → Buf (Elt F) (iLoc d)) (O : (d : Dev nD) → Buf (Elt F) (oLoc d))

/-! ## What the two calls leave in their arrays -/

/-- The first call's output array is its one block whole. -/
theorem arr0_of {d : Dev nD} (dat : Pipeline.Dat τ (Elt F) (HIx 1) ℕ UU ℕ cfg1 d) (G : S1x1x96.Idx → Elt F .i32)
    (h : dat.after 1 t1_0 = G) : dat.arrAt 1 cfg1.N = G := by
  refine Pipeline.Dat.arrAt_eq_of_cover dat 1 G ?_ ?_
  · intro t _
    obtain rfl := fin_N1 t
    unfold Pipeline.Dat.flushed
    rw [h]
    funext j
    refine congrArg G (funext fun a => Fin.ext ?_)
    fin_cases a
    · show (j 0).val = 0 + 1 * (j 0).val
      omega
    · show (j 1).val = 0 + 1 * (j 1).val
      omega
    · show (j 2).val = 0 + 1 * (j 2).val
      omega
  · intro i
    refine ⟨t1_0, flush1_1 _, ?_⟩
    have hi : ((cfg1.win 1).blk t1_0).view.emb (fun a => ⟨(i a).val, (i a).isLt⟩) = i := by
      funext a
      refine Fin.ext ?_
      fin_cases a
      · show 0 + 1 * (i 0).val = (i 0).val
        omega
      · show 0 + 1 * (i 1).val = (i 1).val
        omega
      · show 0 + 1 * (i 2).val = (i 2).val
        omega
    rw [← hi]
    exact View.emb_mem_set _ _

/-- The second call's output array is its one block over the first 96 rows, and as it was elsewhere. -/
theorem arr1_of {d : Dev nD} (dat : Pipeline.Dat τ (Elt F) (HIx 1) ℕ UU ℕ cfg2 d) (O : S128x32768.Idx → Elt F .f32)
    (H : S96x32768.Idx → Elt F .f32) (hA : dat.A 1 = O) (h : dat.after 1 t2_0 = H) : dat.arrAt 1 cfg2.N = overRows O H := by
  have hx : ∀ a, (cfg2.win 1).xsize (cfg2.grid.coords t2_0) a = ![96, 32768] a := by
    intro a
    unfold Pipeline.Window.xsize
    rw [(by decide : ∀ a, win2_1.clip (grid2.coords t2_0) a = none) a]
  funext i
  rw [Pipeline.Dat.arrAt_eq_piecewise dat 1 (overRows O H)]
  · split_ifs with hm
    · rfl
    · rw [hA]; unfold overRows; rw [dif_neg]
      intro hi
      refine hm ⟨t2_0, flush2_1 _, ?_⟩
      have he : ((cfg2.win 1).blk t2_0).view.emb (fun a => ⟨(i a).val, by
          show (i a).val < (cfg2.win 1).xsize (cfg2.grid.coords t2_0) a
          rw [hx a]; fin_cases a; exact hi; exact (i 1).isLt⟩) = i := by
        funext a
        refine Fin.ext ?_
        fin_cases a
        · show 0 + 1 * (i 0).val = (i 0).val
          omega
        · show 0 + 1 * (i 1).val = (i 1).val
          omega
      rw [← he]
      exact View.emb_mem_set _ _
  · intro t _
    obtain rfl := fin_N2 t
    unfold Pipeline.Dat.flushed
    rw [h]
    funext j
    have hj : (j 0).val < 96 := by
      have := (j 0).isLt
      have h2 := hx 0
      exact lt_of_lt_of_eq this h2
    have h0 : (((cfg2.win 1).blk t2_0).view.emb j 0).val = (j 0).val := by
      show 0 + 1 * (j 0).val = (j 0).val
      omega
    rw [View.read_apply]
    unfold overRows
    rw [dif_pos (h0.trans_lt hj)]
    refine congrArg H (funext fun a => Fin.ext ?_)
    fin_cases a
    · show (j 0).val = 0 + 1 * (j 0).val
      omega
    · show (j 1).val = 0 + 1 * (j 1).val
      omega

/-! ## The two calls as regions -/

/-- What the TensorCore owes and has waited for, as both regions find and leave it. -/
def paid (d : Dev nD) : sProp 𝕄 :=
  iprop(∃ W, ⌜(↑(W : Waits sig (HIx 1)) : Set (SemLoc sig × HIx 1)) ⊆ recd (F := F) d⌝ ∗ owes (d.tc : Thread nD τ) (0 : CellTallies nD τ sig (HIx 1)) W)

theorem bigSep_none (Φ : Fin 0 → sProp 𝕄) : bigSep Finset.univ Φ = BI.emp := by rw [Finset.univ_eq_empty]; exact BI.bigSep_empty
theorem prefHeld0 (d : Dev nD) (q) (pf) : (Pipeline.prefHeld (Ix := HIx 1) (Name := ℕ) (U := UU) (Lvl := ℕ) (Val := Elt F) (pcfgs (F := F) 0).pre d q pf : sProp 𝕄) = BI.emp :=
  bigSep_none _
theorem prefHeld1 (d : Dev nD) (q) (pf) : (Pipeline.prefHeld (Ix := HIx 1) (Name := ℕ) (U := UU) (Lvl := ℕ) (Val := Elt F) (pcfgs (F := F) 1).pre d q pf : sProp 𝕄) = BI.emp :=
  bigSep_none _

theorem arrays0 (d : Dev nD) (G : (w : Fin cfg1.W) → Buf (Elt F) ((cfg1.win w).arr.view.loc (d.tc : Thread nD τ))) :
    (dat0 X I₀ d).arrays G = (iprop((xLoc d ↦{fullShare} G 0) ∗ (iLoc d ↦{fullShare} G 1)) : sProp 𝕄) := by
  unfold Pipeline.Dat.arrays
  rw [bigSep_W1, Pipeline.Dat.share_full (dat0 X I₀ d) (fun _ => rfl), Pipeline.Dat.share_full (dat0 X I₀ d) (fun _ => rfl),
    (arr_whole1 0).set_eq_univ, (arr_whole1 1).set_eq_univ]

theorem arrays1 (d : Dev nD) (G : (w : Fin cfg2.W) → Buf (Elt F) ((cfg2.win w).arr.view.loc (d.tc : Thread nD τ))) :
    (dat1 I₁ O d).arrays G = (iprop((iLoc d ↦{fullShare} G 0) ∗ (oLoc d ↦{fullShare} G 1)) : sProp 𝕄) := by
  unfold Pipeline.Dat.arrays
  rw [bigSep_W2, Pipeline.Dat.share_full (dat1 I₁ O d) (fun _ => rfl), Pipeline.Dat.share_full (dat1 I₁ O d) (fun _ => rfl),
    (arr_whole2 0).set_eq_univ, (arr_whole2 1).set_eq_univ]

theorem owes_in {cfg : Pipeline.Cfg sig Λ₀} {d : Dev nD} (dat : Pipeline.Dat τ (Elt F) (HIx 1) ℕ UU ℕ cfg d) (t : Fin (cfg.N + 1))
    (h0 : dat.owed t = 0) (hr : dat.recorded t = recd (F := F) d) : paid (F := F) d ⊢ (dat.owesAt none t : sProp 𝕄) := by
  unfold paid Pipeline.Dat.owesAt Pipeline.owesWithin Pipeline.Dat.bound; rw [h0, hr]
  iintro ⟨%W, %hW, HO⟩; iexists W; isplitr; · ipureintro; exact fun _ h => Or.inl (hW h)
  iexact HO

theorem owes_out {cfg : Pipeline.Cfg sig Λ₀} {d : Dev nD} (dat : Pipeline.Dat τ (Elt F) (HIx 1) ℕ UU ℕ cfg d) (t : Fin (cfg.N + 1))
    (h0 : dat.owed t = 0) (hr : dat.recorded t = recd (F := F) d) : (dat.owesAt none t : sProp 𝕄) ⊢ paid (F := F) d := by
  unfold paid Pipeline.Dat.owesAt Pipeline.owesWithin Pipeline.Dat.bound; rw [h0, hr]
  iintro ⟨%W, %hW, HO⟩; iexists W; isplitr
  · ipureintro
    intro p hp
    rcases hW hp with h | ⟨w, s, rfl⟩
    · exact h
    · exact Nat.zero_le _
  iexact HO

/-- The first TensorCore call. -/
def reg0 : Pipeline.RegionSeg (pcfgs (F := F)) adm (pdats X I₀ I₁ O) none defs₀ 𝒱₀ (K (F := F)).L (K (F := F)).lev 0 where
  win := launch1.win.to₀
  block_pos := block_pos1
  stage_whole := stage_whole1
  K := PEmpty
  osem k := k.elim
  ho := Pipeline.OwnSemFacts.none _
  hbody d := (body0 X I₀ d).loose
  hwaits := Pipeline.hwaits_of_owed_zero _ _ _ _ (K (F := F)).L (K (F := F)).lev 0 fun _ _ => rfl
  pre d := iprop((xLoc d ↦{fullShare} X d) ∗ (iLoc d ↦{fullShare} I₀ d) ∗ paid (F := F) d)
  post d := iprop((xLoc d ↦{fullShare} X d) ∗ (iLoc d ↦{fullShare} (k1_pay1 (topRows (X d)) : Buf (Elt F) (iLoc d))) ∗ paid (F := F) d)
  X _ := BI.emp
  Y _ := BI.emp
  Z _ := BI.emp
  hentry d := by
    rw [Pipeline.ownSems0_none, prefHeld0, show (pdats X I₀ I₁ O 0 d) = dat0 X I₀ d from rfl, arrays0]
    iintro ⟨⟨HX, HI, HO⟩, -, -⟩
    imodintro
    isplitl [HX HI]
    · isplitl [HX]; · iexact HX
      iexact HI
    isplitr; · iempintro
    isplitl [HO]; · iapply (owes_in (dat0 X I₀ d) 0 rfl rfl); iexact HO
    isplitr <;> iempintro
  hin d := by
    rw [show (pdats X I₀ I₁ O 0 d).Φ 0 = Pipeline.scopedRest spec1 d from rfl]
    iintro ⟨-, -, H⟩; iexact H
  hout d := by
    rw [show (pdats X I₀ I₁ O 0 d).Φ (Fin.last _) = Pipeline.scopedRest spec1 d from rfl, Pipeline.ownSems0_none]
    iintro H
    isplitr; · iempintro
    isplitr; · iempintro
    iexact H
  hexit d := by
    rw [show (pdats X I₀ I₁ O 0 d) = dat0 X I₀ d from rfl, arrays0, Pipeline.Dat.arrAt_in _ 0 rfl]
    rw [show (dat0 X I₀ d).arrAt 1 (pinned (F := F) 0).N = _ from arr0_of (dat0 X I₀ d) (k1_pay1 (topRows (X d))) (by dsimp only [dat0])]
    iintro ⟨⟨HX, HI⟩, HO, -, -⟩
    imodintro
    isplitl [HX]; · iexact HX
    isplitl [HI]; · iexact HI
    iapply (owes_out (dat0 X I₀ d) _ rfl rfl); iexact HO

/-- The second TensorCore call. -/
def reg1 : Pipeline.RegionSeg (pcfgs (F := F)) adm (pdats X I₀ I₁ O) none defs₀ 𝒱₀ (K (F := F)).L (K (F := F)).lev 1 where
  win := launch2.win.to₀
  block_pos := block_pos2
  stage_whole := stage_whole2
  K := PEmpty
  osem k := k.elim
  ho := Pipeline.OwnSemFacts.none _
  hbody d := (body1 I₁ O d).loose
  hwaits := Pipeline.hwaits_of_owed_zero _ _ _ _ (K (F := F)).L (K (F := F)).lev 1 fun _ _ => rfl
  pre d := iprop((iLoc d ↦{fullShare} I₁ d) ∗ (oLoc d ↦{fullShare} O d) ∗ paid (F := F) d)
  post d := iprop((iLoc d ↦{fullShare} I₁ d) ∗ (oLoc d ↦{fullShare} (overRows (O d) (hotRows (I₁ d)) : Buf (Elt F) (oLoc d))) ∗ paid (F := F) d)
  X _ := BI.emp
  Y _ := BI.emp
  Z _ := BI.emp
  hentry d := by
    rw [Pipeline.ownSems0_none, prefHeld1, show (pdats X I₀ I₁ O 1 d) = dat1 I₁ O d from rfl, arrays1]
    iintro ⟨⟨HX, HI, HO⟩, -, -⟩
    imodintro
    isplitl [HX HI]
    · isplitl [HX]; · iexact HX
      iexact HI
    isplitr; · iempintro
    isplitl [HO]; · iapply (owes_in (dat1 I₁ O d) 0 rfl rfl); iexact HO
    isplitr <;> iempintro
  hin d := by
    rw [show (pdats X I₀ I₁ O 1 d).Φ 0 = Pipeline.scopedRest spec2 d from rfl]
    iintro ⟨-, -, H⟩; iexact H
  hout d := by
    rw [show (pdats X I₀ I₁ O 1 d).Φ (Fin.last _) = Pipeline.scopedRest spec2 d from rfl, Pipeline.ownSems0_none]
    iintro H
    isplitr; · iempintro
    isplitr; · iempintro
    iexact H
  hexit d := by
    rw [show (pdats X I₀ I₁ O 1 d) = dat1 I₁ O d from rfl, arrays1, Pipeline.Dat.arrAt_in _ 0 rfl]
    rw [show (dat1 I₁ O d).arrAt 1 (pinned (F := F) 1).N = _ from arr1_of (dat1 I₁ O d) (O d) (hotRows (I₁ d)) rfl (by dsimp only [dat1])]
    iintro ⟨⟨HX, HI⟩, HO, -, -⟩
    imodintro
    isplitl [HX]; · iexact HX
    isplitl [HI]; · iexact HI
    iapply (owes_out (dat1 I₁ O d) _ rfl rfl); iexact HO

end Segs

end Cert.Proof.Run
-- ==== Proof.Start.lean ====
/-
  The steps of the TensorCore's program and what the launch deals.
-/
module

public import proofs.«01_k».proof.Proof.Halves
public import proofs.«01_k».proof.Proof.Segs

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents the program passes on -/

/-- The one-hot rows the tiles leave, over what the buffer held. -/
abbrev sOut (d : Dev nD) : Buf (Elt F) (sLoc d) := tiled (m (xLoc d)) (m (sLoc d))
/-- The places of the first rows' maxima. -/
abbrev iOut (d : Dev nD) : Buf (Elt F) (iLoc d) := k1_pay1 (topRows (m (xLoc d)))
/-- The result. -/
def oOut (d : Dev nD) : Buf (Elt F) (oLoc d) := overRows (sOut m d) (hotRows (iOut m d))

abbrev R0 := reg0 (F := F) (fun d => m (xLoc d)) (fun d => m (iLoc d)) (iOut m) (sOut m)
abbrev R1 := reg1 (F := F) (fun d => m (xLoc d)) (fun d => m (iLoc d)) (iOut m) (sOut m)
abbrev PD := pdats (F := F) (fun d => m (xLoc d)) (fun d => m (iLoc d)) (iOut m) (sOut m)

/-! ## The regions' steps, among the SparseCore program's -/

theorem inj : Function.Injective (Pipeline.cellOf (nD := nD) (τ := τ) (pinned (F := F))) := cellOf_inj

/-- What the two pipelines are dealt on a TensorCore. -/
def ghost (p : Fin 2) (d : Dev nD) : sProp 𝕄 :=
  iprop(Pipeline.cellsGhost (pinned (F := F)) EP p d ∗ Pipeline.toksInit (pinned (F := F)) EP p d)

theorem pre0 (d : Dev nD) : (R0 m).pre d = iprop((xLoc d ↦{fullShare} m (xLoc d)) ∗ (iLoc d ↦{fullShare} m (iLoc d)) ∗ paid (F := F) d) := rfl
theorem post0 (d : Dev nD) : (R0 m).post d = iprop((xLoc d ↦{fullShare} m (xLoc d)) ∗ (iLoc d ↦{fullShare} iOut m d) ∗ paid (F := F) d) := rfl
theorem pre1 (d : Dev nD) : (R1 m).pre d = iprop((iLoc d ↦{fullShare} iOut m d) ∗ (oLoc d ↦{fullShare} sOut m d) ∗ paid (F := F) d) := rfl
theorem post1 (d : Dev nD) : (R1 m).post d = iprop((iLoc d ↦{fullShare} iOut m d) ∗ (oLoc d ↦{fullShare} oOut m d) ∗ paid (F := F) d) := rfl

theorem step0 [∀ e, Nonempty (Elt F e)] (d : Dev nD) (Q : PUnit → sProp 𝕄) :
    iprop((iprop(boundary (d.tc : Thread nD τ) ∗ (xLoc d ↦{fullShare} m (xLoc d)) ∗ (iLoc d ↦{fullShare} iOut m d) ∗ paid (F := F) d) -∗ Q ⟨⟩)
        ∗ boundary (d.tc : Thread nD τ) ∗ ((xLoc d ↦{fullShare} m (xLoc d)) ∗ (iLoc d ↦{fullShare} m (iLoc d)) ∗ paid (F := F) d) ∗ levAts (K (F := F)).L (K (F := F)).lev ∗ ghost (F := F) 0 d)
      ⊢ wp frame (wpE ((K (F := F)).defs (D (F := F))) 𝒱 (SparseCore.T d) none) Set.univ
          (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) Prog.ret) from rfl]
  refine BIBase.Entails.trans ?_ ((K (F := F)).wp_liftProg (D (F := F)) 𝒱 (SparseCore.T d) Set.univ none
    (.op (.customCall (Pipeline.entry 0) ()) Prog.ret) Q)
  refine BIBase.Entails.trans ?_ (Pipeline.RegionSeg.wp (pcfgs (F := F)) adm (PD m) none inj EP defs₀ 𝒱₀ (K (F := F)).L (K (F := F)).lev
    (R0 m) d none (fun _ h => nomatch h) Prog.ret Q)
  unfold ghost
  rw [wp_ret, pre0, post0]
  iintro ⟨Hk, Hb, Hp, Hl, Hg⟩
  isplitl [Hk]
  · iintro H
    imodintro
    iapply Hk; iexact H
  isplitl [Hb]; · iexact Hb
  isplitl [Hp]; · iexact Hp
  isplitl [Hl]; · iexact Hl
  iexact Hg

theorem step1 [∀ e, Nonempty (Elt F e)] (d : Dev nD) (Q : PUnit → sProp 𝕄) :
    iprop((iprop(boundary (d.tc : Thread nD τ) ∗ (iLoc d ↦{fullShare} iOut m d) ∗ (oLoc d ↦{fullShare} oOut m d) ∗ paid (F := F) d) -∗ Q ⟨⟩)
        ∗ boundary (d.tc : Thread nD τ) ∗ ((iLoc d ↦{fullShare} iOut m d) ∗ (oLoc d ↦{fullShare} sOut m d) ∗ paid (F := F) d) ∗ levAts (K (F := F)).L (K (F := F)).lev ∗ ghost (F := F) 1 d)
      ⊢ wp frame (wpE ((K (F := F)).defs (D (F := F))) 𝒱 (SparseCore.T d) none) Set.univ
          (Prog.lift (.customCall (SparseCore.inner (Pipeline.entry 1)) ())) Q := by
  rw [show (Prog.lift (.customCall (SparseCore.inner (Pipeline.entry 1)) ()) : Prog (TpuEff nD τ sig (Elt F) (SparseCore.Sig (ΛP (F := F)) 1) .tc) PUnit)
    = SparseCore.liftProg (.op (.customCall (Pipeline.entry 1) ()) Prog.ret) from rfl]
  refine BIBase.Entails.trans ?_ ((K (F := F)).wp_liftProg (D (F := F)) 𝒱 (SparseCore.T d) Set.univ none
    (.op (.customCall (Pipeline.entry 1) ()) Prog.ret) Q)
  refine BIBase.Entails.trans ?_ (Pipeline.RegionSeg.wp (pcfgs (F := F)) adm (PD m) none inj EP defs₀ 𝒱₀ (K (F := F)).L (K (F := F)).lev
    (R1 m) d none (fun _ h => nomatch h) Prog.ret Q)
  unfold ghost
  rw [wp_ret, pre1, post1]
  iintro ⟨Hk, Hb, Hp, Hl, Hg⟩
  isplitl [Hk]
  · iintro H
    imodintro
    iapply Hk; iexact H
  isplitl [Hb]; · iexact Hb
  isplitl [Hp]; · iexact Hp
  isplitl [Hl]; · iexact Hl
  iexact Hg

/-! ## The launch element -/

def u₀ : UU := (initOf (K (F := F)).hsCells (K (F := F)).hsToks,
  (initOf (Pipeline.cells (pinned (F := F)) inj) (Pipeline.launchToks (pinned (F := F)) inj), 1))

theorem ownU_apart (a : UH) (b : UP) (c : Counters) : (ownU (a, (b, c)) : sProp 𝕄) ⊢ iprop(BI.own (EH a) ∗ BI.own (EP (F := F) b)) := by
  iintro Hu
  ihave H := (ownU_pair _ _) $$ Hu
  icases H with ⟨H1, H2⟩
  isplitl [H1]; · iexact H1
  ihave H := (own_pair_emb embR b c) $$ H2
  icases H with ⟨H3, -⟩
  iexact H3

theorem Px (thr : Thread nD τ) : (bigSep Finset.univ fun q : Fin 1 => (P (F := F) m).x q thr) = iprop(emp) :=
  bigSep_univ_of_subsingleton (0 : Fin 1)

theorem four_swap (A B C D : sProp 𝕄) : iprop((A ∗ B) ∗ C ∗ D) ⊢ iprop((A ∗ C) ∗ B ∗ D) := by
  iintro ⟨⟨H1, H2⟩, H3, H4⟩
  isplitl [H1 H3]
  · isplitl [H1]; · iexact H1
    iexact H3
  isplitl [H2]; · iexact H2
  iexact H4

theorem hu₀ : (ownU (u₀ (F := F)) : sProp 𝕄)
    ⊢ |={Set.univ}=> iprop(BI.own (EH (initOf (K (F := F)).hsCells (K (F := F)).hsToks))
        ∗ (bigSep Finset.univ fun d : Dev nD => iprop(ghost (F := F) 0 d ∗ ghost (F := F) 1 d))
        ∗ bigSep Finset.univ fun thr : Thread nD τ => bigSep Finset.univ fun q : Fin 1 => (P m).x q thr) := by
  have hp : (bigSep Finset.univ fun thr : Thread nD τ => bigSep Finset.univ fun q : Fin 1 => (P m).x q thr) = (iprop(emp) : sProp 𝕄) := by
    simp only [Px]; exact bigSep_emp_const _
  have hg : iprop((bigSep Finset.univ fun d : Dev nD => bigSep Finset.univ fun p => Pipeline.cellsGhost (pinned (F := F)) (EP (F := F)) p d)
      ∗ (bigSep Finset.univ fun d : Dev nD => bigSep Finset.univ fun p => (Pipeline.toksInit (pinned (F := F)) (EP (F := F)) p d : sProp 𝕄)))
      ⊢ (bigSep Finset.univ fun d : Dev nD => iprop(ghost (F := F) 0 d ∗ ghost (F := F) 1 d) : sProp 𝕄) := by
    rw [← bigSep_sep']
    refine bigSep_mono fun d _ => ?_
    rw [bigSep_W1, bigSep_W1]
    unfold ghost
    exact four_swap _ _ _ _
  rw [hp]
  unfold u₀
  iintro Hu
  ihave H := (ownU_apart _ _ _) $$ Hu
  icases H with ⟨HH, HP⟩
  imod (Pipeline.fund_ghost (pinned (F := F)) (EP (F := F)) inj) $$ HP with HG
  imodintro
  isplitl [HH]; · iexact HH
  isplitr []
  · iapply hg; iexact HG
  iempintro

end Cert.Proof.Run
-- ==== Proof.Whole.lean ====
/-
  The whole program's run: what every final state holds.
-/
module

public import proofs.«01_k».proof.Proof.Start

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem unscopedBufs_eq (d : Dev nD) (W : (b : Ref sig .tc) → Buf (Elt F) ((d.tc : Thread nD τ).loc b)) :
    (unscopedBufs d W : sProp 𝕄)
      = iprop((xLoc d ↦{fullShare} W main_arg0) ∗ (sLoc d ↦{fullShare} W main_v0) ∗ (iLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-! ## The host's copy -/

/-- The two buffers of the copy. -/
def pairSet : Finset (DevRef τ sig) := {Proc.devRef .tc main_v0, Proc.devRef .tc main_v2}
/-- The memory the copy finds: the tiles' result in place. -/
def pairVal (d : Dev nD) : Valuation τ sig (Elt F) := Function.update (fun b => m (d, b)) (Proc.devRef .tc main_v0) (sOut m d)

theorem pair_eq (d : Dev nD) (W : Valuation τ sig (Elt F)) : (StableHlo.held (SparseCore.T d) pairSet W : sProp 𝕄)
    = iprop((sLoc d ↦{fullShare} W (Proc.devRef .tc main_v0)) ∗ oLoc d ↦{fullShare} W (Proc.devRef .tc main_v2)) := by
  unfold StableHlo.held pairSet
  rw [SparseCore.bigSep_insert' (by decide), bigSep_singleton]

theorem val_s (d : Dev nD) : pairVal m d (Proc.devRef .tc main_v0) = sOut m d := Function.update_self ..
theorem val_o (d : Dev nD) : pairVal m d (Proc.devRef .tc main_v2) = m (oLoc d) := Function.update_of_ne (by decide) ..

/-- The copy's effect as the program has it. -/
abbrev copyOp : HloOp τ sig (Elt F) := StableHlo.unary main_v0 main_v2 id

theorem copy_sub : (copyOp (F := F)).bufs ⊆ pairSet := by
  show ({Proc.devRef .tc main_v0, Proc.devRef .tc main_v2} : Finset (DevRef τ sig)) ⊆ pairSet
  exact Finset.Subset.refl _

theorem copied_s (d : Dev nD) : (copyOp (F := F)).result (pairVal m d) (Proc.devRef .tc main_v0) = sOut m d := by
  rw [StableHlo.unary_result_ne main_v0 main_v2 id _ _ _ (by decide), val_s]
theorem copied_o (d : Dev nD) : (copyOp (F := F)).result (pairVal m d) (Proc.devRef .tc main_v2) = sOut m d := by
  rw [StableHlo.unary_result main_v0 main_v2 id _ _ _, val_s]; rfl

/-! ## The program -/

abbrev FIN (d : Dev nD) : sProp 𝕄 := iprop((xLoc d ↦{fullShare} m (xLoc d)) ∗ oLoc d ↦{fullShare} oOut m d)

/-- The TensorCore's state after the SparseCore call, its debts apart and back. -/
theorem tcSt_apart (d : Dev nD) : ∃ R : sProp 𝕄, ((K (F := F)).tcSt EH d 1 ⊢ iprop(paid (F := F) d ∗ R))
    ∧ (iprop(paid (F := F) d ∗ R) ⊢ (K (F := F)).tcSt EH d 1) := by
  have h : ∃ R : sProp 𝕄, (K (F := F)).tcSt EH d 1
      = iprop((∃ W, ⌜(K (F := F)).WBelow (SparseCore.T d) W (8 * SparseCore.Cfg.Blocks.fst (Q := 1) (N := 1) 1)⌝
        ∗ owes (SparseCore.T d) ((K (F := F)).Otc d 1) W) ∗ R) := ⟨_, rfl⟩
  obtain ⟨R, h⟩ := h
  rw [(K (F := F)).Otc_end d (le_refl 1)] at h
  refine ⟨R, ?_, ?_⟩
  · rw [h]; unfold paid
    iintro ⟨⟨%W, %hW, HO⟩, HR⟩
    isplitl [HO]
    · iexists W
      isplitr
      · ipureintro; exact fun p hp => hW p hp
      iexact HO
    iexact HR
  · rw [h]; unfold paid
    iintro ⟨⟨%W, %hW, HO⟩, HR⟩
    isplitl [HO]
    · iexists W
      isplitr
      · ipureintro; exact fun p hp => hW hp
      iexact HO
    iexact HR

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ (ghost (F := F) 0 d ∗ ghost (F := F) 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR, hR'⟩ := tcSt_apart (F := F) d
  unfold SparseCore.Cfg.tcRes SparseCore.Cfg.tcEnd
  rw [unscopedBufs_eq]
  simp only [main, wp_bind, wp_pure]
  iintro ⟨#Hctx, Hst, ⟨Hb, ⟨Hx, Hs, Hi, Ho⟩, Hts, -⟩, Hg0, Hg1⟩
  ihave Hxx := ((pointsTo_split_subset (ℓ := xLoc d) (q := fullShare) (f := m (xLoc d)) (Finset.subset_univ lowRows)).1) $$ Hx
  icases Hxx with ⟨Hx, Hx'⟩
  ihave Hss := ((pointsTo_split_subset (ℓ := sLoc d) (q := fullShare) (f := m (sLoc d)) (Finset.subset_univ lowRows)).1) $$ Hs
  icases Hss with ⟨Hs, Hs'⟩
  iapply ((K (F := F)).wp_run (D (F := F)) 𝒱 (EH := EH) (P := P m) κ d 0) $$ [Hst Hx Hx' Hs Hs' Hi Ho Hb Hts Hg0 Hg1]
  isplitr; · iexact Hctx
  isplitl [Hst]; · iexact Hst
  isplitl [Hx Hs]
  · rw [st0_eq]
    isplitl [Hx]; · iexact Hx
    iexact Hs
  iintro ⟨Hst, Hdn⟩
  ihave Hdn' := (Entails.of_eq (dn0_eq m d)) $$ Hdn
  icases Hdn' with ⟨Hx, Hs⟩
  ihave Hx := ((pointsTo_split_subset (ℓ := xLoc d) (q := fullShare) (f := m (xLoc d)) (Finset.subset_univ lowRows)).2) $$ [Hx Hx']
  · isplitl [Hx] <;> iassumption
  ihave Hs := (s_join m d) $$ [Hs Hs']
  · isplitl [Hs] <;> iassumption
  ihave Hsp := (show (K (F := F)).tcSt EH d ((0 : Fin 1).val + 1) ⊢ iprop(paid (F := F) d ∗ R) from hR) $$ Hst
  icases Hsp with ⟨Hp, HR⟩
  iapply (step0 m d)
  isplitr [Hb Hx Hi Hp Hg0]
  rotate_left
  · isplitl [Hb]; · iexact Hb
    isplitl [Hx Hi Hp]
    · isplitl [Hx]; · iexact Hx
      isplitl [Hi]; · iexact Hi
      iexact Hp
    isplitr [Hg0]
    · iapply ((K (F := F)).ctx_levAts (EH := EH) (P := P m) κ); iexact Hctx
    iexact Hg0
  iintro ⟨Hb, Hx, Hi, Hp⟩
  iapply (StableHlo.wp_hlo_within 𝒱 (SparseCore.T d) none Set.univ (op := copyOp (F := F)) (S := pairSet) copy_sub (V := pairVal m d)) $$ [Hb Hs Ho]
  · isplitl [Hb]; · iexact Hb
    rw [pair_eq, val_s, val_o]
    isplitl [Hs] <;> iassumption
  rw [pair_eq, copied_s, copied_o]
  iintro ⟨Hb, Hs, Ho⟩
  rw [wp_ret]
  imodintro
  iapply (step1 m d)
  isplitr [Hb Hi Ho Hp Hg1]
  rotate_left
  · isplitl [Hb]; · iexact Hb
    isplitl [Hi Ho Hp]
    · isplitl [Hi]; · iexact Hi
      isplitl [Ho]; · iexact Ho
      iexact Hp
    isplitr [Hg1]
    · iapply ((K (F := F)).ctx_levAts (EH := EH) (P := P m) κ); iexact Hctx
    iexact Hg1
  iintro ⟨Hb, Hi, Ho, Hp⟩
  imodintro
  isplitl [Hp HR]
  · iapply hR'
    isplitl [Hp] <;> iassumption
  isplitl [Hx Ho]
  · isplitl [Hx]; · iexact Hx
    iexact Ho
  isplitl [Hb] <;> iassumption

def fq (d : Dev nD) (s' : Phys nD τ sig (Elt F)) : Prop := s'.mem.mem (xLoc d) = m (xLoc d) ∧ s'.mem.mem (oLoc d) = oOut m d

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := oOut m d)) $$ [HSI Ho]
  · isplitl [HSI] <;> iassumption
  icases H with %h2
  ipureintro; exact ⟨funext fun i => h1 i (Finset.mem_univ i), funext fun i => h2 i (Finset.mem_univ i)⟩

/-- What every final state holds: the input as at the launch, the result, every counter at zero. -/
def QC : PUnit × MemSt nD τ sig (Elt F) → Prop := fun r =>
  (∀ d : Dev nD, r.2.mem (xLoc d) = m (xLoc d) ∧ r.2.mem (oLoc d) = oOut m d) ∧ r.2.sem = fun _ => 0

/-- The run: from any memory with zero counters every weakly fair execution ends, in such a state. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => iprop(ghost (F := F) 0 d ∗ ghost (F := F) 1 d)) (FIN m) (u₀ (F := F)) (sep_elim_left.trans (hu₀ m)) (hmain m ρ) (fq m) (hfin m) (QC m)
    (fun _ h hz => ⟨h, hz⟩)

end Cert.Proof.Run
-- ==== Proof.Frames.lean ====
/-
The frames of the kernel and of its ideal twin, read off the one run of the program, which is
stated over any floats. The two programs have the same text.
-/
module

public import proofs.«01_k».proof.Defs
public import proofs.«01_k».proof.Proof.Twin
public import proofs.«01_k».proof.Proof.Whole

@[expose] public section

noncomputable section

namespace Cert.Proof.Run

open Idealize.ShloMosaic
open Idealize.SL.Sem

/-- The ideal twin: the run at extended reals. -/
theorem frame_ideal : Cert.quiescent_KernelIdeal := fun m ρ _ =>
  (θ_run Cert.KernelIdeal.defs _ _).mono (fun _ h => ⟨fun d => (h.1 d).1, h.2⟩)
    (run_main (F := Ideal) m ρ)

/-- The kernel: the same run, at machine floats. -/
theorem frame_kernel : Cert.quiescent_Kernel := fun m ρ _ => by
  have key := (θ_run Cert.KernelIdeal.defs _ _).mono
    (fun _ h => (⟨fun d => (h.1 d).1, h.2⟩ : (∀ d, _) ∧ _)) (run_main (F := Bits) m ρ)
  rw [← Twin.defs, ← Twin.threads] at key
  exact key

end Cert.Proof.Run
-- ==== Proof.Ref.lean ====
/-
The reference's run. Its program is a line of host operations over whole arrays and launches
nothing: the row-wise index of the maximum, then ones scattered into zeros at (row, that index).
Here: the line, that the program is it, and what its last buffer holds at the end.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

/-- The operations of the program, in order: first the five of the row-wise argmax. -/
abbrev ops : List (HloOp τ sig (Elt F)) :=
  [ TRef.nullary main_call0.v0 (iotaInDim S128x32768 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S128x32768_S128_d1 h_S_ j).1),
    TRef.quaternary (.of main_arg0) main_call0.v0 main_call0.cst main_call0.c main_call0.v1_1
      (fun x y u v j => (Host.argReduce reducer_argmax_f32_i32 x y u v reducesTo_S128x32768_S128_d1 h_S_ j).2),
    nullary main_cst (constant S_ .f32 0x00000000#32),
    unary main_cst main_v1 (broadcastInDim S128x32768 ![] bcast_S_S128x32768),
    nullary main_v2 (iotaInDim S128 32 0),
    nullary main_c (constantI S_ 32 0#32),
    unary main_c main_v3 (broadcastInDim S128 ![] bcast_S_S128),
    binary main_v2 main_v3 main_v4 (cmpi .slt),
    nullary main_c_0 (constantI S_ 32 128#32),
    unary main_c_0 main_v5 (broadcastInDim S128 ![] bcast_S_S128),
    binary main_v2 main_v5 main_v6 addi,
    ternary main_v4 main_v6 main_v2 main_v7 select,
    nullary main_c_1 (constantI S_ 32 0#32),
    unary main_c_1 main_v8 (broadcastInDim S128 ![] bcast_S_S128),
    binary main_v0 main_v8 main_v9 (cmpi .slt),
    nullary main_c_2 (constantI S_ 32 32768#32),
    unary main_c_2 main_v10 (broadcastInDim S128 ![] bcast_S_S128),
    binary main_v0 main_v10 main_v11 addi,
    ternary main_v9 main_v11 main_v0 main_v12 select,
    unary main_v7 main_v13 (broadcastInDim S128x1 ![0] bcast_S128_S128x1_0),
    unary main_v12 main_v14 (broadcastInDim S128x1 ![0] bcast_S128_S128x1_0),
    binary main_v13 main_v14 main_v15
      (fun a b => concatenate S128x2 1 [⟨S128x1, a⟩, ⟨S128x1, b⟩] concatenates_S128x1_S128x1_S128x2_d1),
    nullary main_cst_3 (constant S_ .f32 0x3F800000#32),
    unary main_cst_3 main_v16 (broadcastInDim S128 ![] bcast_S_S128),
    ternary main_v1 main_v15 main_v16 main_v17
      (fun x i u => Host.scatter scatter_S128x32768_S128x2_S128_n_01_01_1 (fun _ b => b) x i u) ]

theorem main_eq (c : Dev nD) : main (F := F) c = seq ops := by
  simp only [main, fn_argmax.body, seq, bind_assoc, pure_bind]
  rfl

/-- The row-wise argmax, as the program's reduction has it. -/
def winners (x : S128x32768.Idx → F .f32) : S128.Idx → BitVec 32 := fun j =>
  (Host.argReduce reducer_argmax_f32_i32 x (iotaInDim S128x32768 32 1) (constant S_ .f32 0xFF800000#32)
    (constantI S_ 32 0#32) reducesTo_S128x32768_S128_d1 h_S_ j).2

/-- An index read from the end where it is negative: `n` is the axis's length. -/
def wrapped (w : S128.Idx → BitVec 32) (n : BitVec 32) : S128.Idx → BitVec 32 :=
  select (cmpi .slt w (broadcastInDim S128 ![] bcast_S_S128 (constantI S_ 32 0#32)))
    (addi w (broadcastInDim S128 ![] bcast_S_S128 (constantI S_ 32 n))) w

/-- The table of index pairs: row `r` holds `r` and the row's winner. -/
def pairs (w : S128.Idx → BitVec 32) : S128x2.Idx → BitVec 32 :=
  concatenate S128x2 1
    [⟨S128x1, broadcastInDim S128x1 ![0] bcast_S128_S128x1_0 (wrapped (iotaInDim S128 32 0) 128#32)⟩,
     ⟨S128x1, broadcastInDim S128x1 ![0] bcast_S128_S128x1_0 (wrapped w 32768#32)⟩]
    concatenates_S128x1_S128x1_S128x2_d1

/-- The program's result, a function of its argument. -/
def out (x : S128x32768.Idx → F .f32) : S128x32768.Idx → F .f32 :=
  Host.scatter scatter_S128x32768_S128x2_S128_n_01_01_1 (fun _ b => b)
    (broadcastInDim S128x32768 ![] bcast_S_S128x32768 (constant S_ .f32 0x00000000#32))
    (pairs (winners x))
    (broadcastInDim S128 ![] bcast_S_S128 (constant S_ .f32 0x3F800000#32))

theorem arg_eq (V : Valuation τ sig (Elt F)) :
    after ops V (Proc.devRef .tc main_arg0) = V (Proc.devRef .tc main_arg0) := by
  simp only [after_cons, after_nil]
  rfl

theorem out_eq (V : Valuation τ sig (Elt F)) :
    after ops V (Proc.devRef .tc main_v17) = out (V (Proc.devRef .tc main_arg0)) := by
  after_results
  unfold out pairs wrapped winners
  rfl

theorem no_refs : (Finset.univ.filter fun b : Ref sig .tc => b.isScoped) = ∅ := by decide
theorem no_sems : (Finset.univ.filter fun s : SemLoc sig => s.isScoped .tc) = ∅ := by decide

theorem ops_tc : (ops : List (HloOp τ sig (Elt F))).Forall fun op => op.bufs ⊆ tcRefs τ sig := by
  simp only [List.Forall, nullary_bufs_sub, unary_bufs_sub, binary_bufs_sub, ternary_bufs_sub,
    quaternary_bufs_sub, and_self]

/-- Every run ends, each buffer at what the line leaves in it. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq no_refs no_sems defs main (fun _ => ops) main_eq (fun _ => ops_tc) m ρ

/-- Every run ends with the result at `out` of the argument, and the argument as it was. -/
theorem run_out (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v17) = out (m ((d.tc : Thread nD τ).loc main_arg0))
      ∧ r.2.mem ((d.tc : Thread nD τ).loc main_arg0) = m ((d.tc : Thread nD τ).loc main_arg0) :=
  (θ_run defs _ _).mono
    (fun _ h d => ⟨(h d main_v17).trans (out_eq _), (h d main_arg0).trans (arg_eq _)⟩) (run_all m ρ)

/-- The reference's frame. -/
theorem frame : Cert.quiescent_ReferenceIdeal := fun m ρ _ =>
  (θ_run defs _ _).mono
    (fun r h => ⟨fun d => (h d).2, sem_eq_zero_of_no_sems (by decide) r.2⟩) (run_out m ρ)

end Cert.Proof.Ref
-- ==== Proof.Best.lean ====
/-
The first place of a maximum, over the extended reals: what it is for a value and a place to be the
best of a set of places, that there is at most one such, and how it is carried from sets to their
union and to one place more.
-/
module

public import Idealize.ShloMosaic.PureOps.Ideal.Laws

@[expose] public section

noncomputable section

namespace Cert.Proof.Order

/-- `v` is the greatest value of `g` over the places `P`, and `i` the first of them at which it stands. -/
structure Best (g : ℕ → EReal) (P : ℕ → Prop) (v : EReal) (i : ℕ) : Prop where
  mem : P i
  val : g i = v
  le : ∀ j, P j → g j ≤ v
  first : ∀ j, P j → g j = v → i ≤ j

variable {g : ℕ → EReal} {P Q : ℕ → Prop} {v w : EReal} {i j : ℕ}

theorem Best.unique (h : Best g P v i) (h' : Best g P w j) : i = j := by
  have e : v = w := le_antisymm (h.val ▸ h'.le i h.mem) (h'.val ▸ h.le j h'.mem)
  subst e
  exact le_antisymm (h.first j h'.mem h'.val) (h'.first i h.mem h.val)

/-- The same places, said otherwise. -/
theorem Best.congr (h : Best g P v i) (e : ∀ n, Q n ↔ P n) : Best g Q v i :=
  ⟨(e i).2 h.mem, h.val, fun j hj => h.le j ((e j).1 hj), fun j hj => h.first j ((e j).1 hj)⟩

theorem best_one (g : ℕ → EReal) (n : ℕ) : Best g (fun k => k = n) (g n) n :=
  ⟨rfl, rfl, fun _ h => h ▸ le_rfl, fun _ h _ => h ▸ le_rfl⟩

/-- Of two sets: the second's best where its value is greater, or equal at an earlier place. -/
theorem Best.merge_right (h : Best g P v i) (h' : Best g Q w j) (c : v < w ∨ w = v ∧ j < i) :
    Best g (fun n => P n ∨ Q n) w j := by
  have le : v ≤ w := c.elim le_of_lt fun c => c.1.ge
  refine ⟨.inr h'.mem, h'.val, ?_, ?_⟩
  · rintro n (hn | hn)
    · exact (h.le n hn).trans le
    · exact h'.le n hn
  · rintro n (hn | hn) e
    · rcases c with c | c
      · exact absurd (e ▸ h.le n hn) (not_le.2 c)
      · exact c.2.le.trans (h.first n hn (e.trans c.1))
    · exact h'.first n hn e

/-- Of two sets: the first's best otherwise. -/
theorem Best.merge_left (h : Best g P v i) (h' : Best g Q w j) (c : ¬(v < w ∨ w = v ∧ j < i)) :
    Best g (fun n => P n ∨ Q n) v i := by
  have le : w ≤ v := not_lt.1 fun hh => c (.inl hh)
  refine ⟨.inl h.mem, h.val, ?_, ?_⟩
  · rintro n (hn | hn)
    · exact h.le n hn
    · exact (h'.le n hn).trans le
  · rintro n (hn | hn) e
    · exact h.first n hn e
    · have hw : w = v := le_antisymm le (e ▸ h'.le n hn)
      exact (not_lt.1 fun hh => c (.inr ⟨hw, hh⟩)).trans (h'.first n hn (e.trans hw.symm))

/-- One place more, after all the others, its value greater than the best. -/
theorem Best.step_take (h : Best g P v i) (n : ℕ) (c : v < g n) :
    Best g (fun k => P k ∨ k = n) (g n) n :=
  h.merge_right (best_one g n) (.inl c)

/-- One place more, after all the others, its value no greater. -/
theorem Best.step_keep (h : Best g P v i) (n : ℕ) (hn : i < n) (c : ¬v < g n) :
    Best g (fun k => P k ∨ k = n) v i :=
  h.merge_left (best_one g n) fun hh => hh.elim c fun hh => absurd hh.2 (not_lt.2 hn.le)

/-- What a fold that starts from `⊥` at place 0 has after the places `P`: the best, or the start itself. -/
structure Seen (g : ℕ → EReal) (P : ℕ → Prop) (v : EReal) (i : ℕ) : Prop where
  mem : P i ∨ i = 0
  val : g i = v ∨ v = ⊥ ∧ i = 0
  le : ∀ j, P j → g j ≤ v
  first : ∀ j, P j → g j = v → i ≤ j

theorem seen_none (g : ℕ → EReal) : Seen g (fun _ => False) ⊥ 0 :=
  ⟨.inr rfl, .inr ⟨rfl, rfl⟩, fun _ h => h.elim, fun _ h => h.elim⟩

/-- One place more, wherever it lies: the fold keeps what it has. -/
theorem Seen.keep (h : Seen g P v i) (n : ℕ) (c : g n < v ∨ g n = v ∧ i < n) :
    Seen g (fun k => P k ∨ k = n) v i := by
  refine ⟨h.mem.imp_left .inl, h.val, ?_, ?_⟩
  · rintro k (hk | rfl)
    · exact h.le k hk
    · exact c.elim le_of_lt fun c => c.1.le
  · rintro k (hk | rfl) e
    · exact h.first k hk e
    · rcases c with c | c
      · exact absurd e c.ne
      · exact c.2.le

/-- One place more: the fold takes it. -/
theorem Seen.take (h : Seen g P v i) (n : ℕ) (c : v < g n ∨ g n = v ∧ n ≤ i) :
    Seen g (fun k => P k ∨ k = n) (g n) n := by
  have le : v ≤ g n := c.elim le_of_lt fun c => c.1.ge
  refine ⟨.inl (.inr rfl), .inl rfl, ?_, ?_⟩
  · rintro k (hk | rfl)
    · exact (h.le k hk).trans le
    · exact le_rfl
  · rintro k (hk | rfl) e
    · rcases c with c | c
      · exact absurd (e ▸ h.le k hk) (not_le.2 c)
      · exact c.2.trans (h.first k hk (e.trans c.1))
    · exact le_rfl

theorem Seen.congr (h : Seen g P v i) (e : ∀ n, Q n ↔ P n) : Seen g Q v i :=
  ⟨h.mem.imp_left (e i).2, h.val, fun j hj => h.le j ((e j).1 hj), fun j hj => h.first j ((e j).1 hj)⟩

/-- Once the place 0 has been seen the start is a best like any other. -/
theorem Seen.best (h : Seen g P v i) (h0 : P 0) : Best g P v i := by
  refine ⟨h.mem.elim id fun e => e ▸ h0, ?_, h.le, h.first⟩
  rcases h.val with e | ⟨rfl, rfl⟩
  · exact e
  · exact le_bot_iff.1 (h.le 0 h0)

end Cert.Proof.Order
-- ==== Proof.Winner.lean ====
/-
A SparseCore tile's column over the extended reals: after the scans, the merge of the streams and
the four exchange steps, the picked column is the first place of the row's maximum.
-/
module

public import proofs.«01_k».proof.Proof.Pick
public import proofs.«01_k».proof.Proof.Best
public import Idealize.ShloMosaic.Lib.WordCmp

@[expose] public section

noncomputable section

namespace Cert.Proof.Run

open Cert.KernelIdeal Cert.KernelIdeal.Gen
open Cert.Proof.Order
open Idealize.ShloMosaic

/-! ## The comparisons, as propositions -/

theorem select_ofBool {α : Type} (c : Bool) (a b : α) : Scalar.select (BitVec.ofBool c) a b = if c = true then a else b := by
  cases c <;> rfl

theorem bits : ∀ a b c : Bool, BitVec.ofBool a ||| (BitVec.ofBool b &&& BitVec.ofBool c) = BitVec.ofBool (a || (b && c)) := by
  decide

/-- A strict comparison of extended reals chooses. -/
theorem select_gt {α : Type} (x y : Ideal .f32) (a b : α) :
    Scalar.select (FloatOps.cmpf .ogt x y) a b = if (y : EReal) < x then a else b := by
  show Scalar.select (BitVec.ofBool (decide ((y : EReal) < x))) a b = _
  rw [select_ofBool]; simp only [decide_eq_true_eq]

/-- Two words of columns compare as their numbers. -/
theorem slt_cols {i j : BitVec 32} (hi : i.toNat < 32768) (hj : j.toNat < 32768) : i.slt j = decide (i.toNat < j.toNat) := by
  rw [BitVec.slt, WordCmp.toInt_eq_toNat_of_lt_half (by norm_num; omega), WordCmp.toInt_eq_toNat_of_lt_half (by norm_num; omega)]
  simp only [Nat.cast_lt]

/-- The merge's choice: the greater value, or the same at an earlier column. -/
theorem select_better {α : Type} (x y : Ideal .f32) {i j : BitVec 32} (hi : i.toNat < 32768) (hj : j.toNat < 32768) (a b : α) :
    Scalar.select (IntOp.ori (FloatOps.cmpf .ogt y x) (IntOp.andi (FloatOps.cmpf .oeq y x) (IntOp.cmpi .slt j i))) a b
      = if (x : EReal) < y ∨ (y : EReal) = x ∧ j.toNat < i.toNat then a else b := by
  show Scalar.select (BitVec.ofBool (decide ((x : EReal) < y)) ||| (BitVec.ofBool (decide ((y : EReal) = x)) &&& BitVec.ofBool (j.slt i))) a b = _
  rw [slt_cols hj hi]
  rw [bits, select_ofBool]
  simp only [Bool.or_eq_true, Bool.and_eq_true, decide_eq_true_eq]

/-! ## The scan -/

/-- The columns a lane of a stream has seen after `n` steps: `a` is the lane's offset in a step's 32 columns. -/
def SeenCols (a n : ℕ) : ℕ → Prop := fun c => c < 32 * n ∧ c % 32 = a

theorem seenCols_succ {a : ℕ} (ha : a < 32) (n c : ℕ) : SeenCols a (n + 1) c ↔ SeenCols a n c ∨ c = 32 * n + a := by
  unfold SeenCols; omega

theorem negInf : (k0_pay2 : FVec Ideal S16 .f32) = fun _ => (⊥ : EReal) := by
  funext l
  show Ideal.ofBits .f32 0xFF800000#32 = ⊥
  simp [Ideal.ofBits, Ideal.ieee]

/-- One lane of one step, from a best to a best. -/
theorem lane_step {g : ℕ → EReal} {a n : ℕ} (ha : a < 32) {v : EReal} {i : BitVec 32} (h : Best g (SeenCols a n) v i.toNat) (w : BitVec 32)
    (hw : w.toNat = 32 * n + a) :
    Best g (SeenCols a (n + 1)) (if v < g (32 * n + a) then g (32 * n + a) else v) (if v < g (32 * n + a) then w else i).toNat := by
  split
  · next c => rw [hw]; exact (h.step_take _ c).congr (seenCols_succ ha n)
  · next c =>
    refine (h.step_keep _ ?_ c).congr (seenCols_succ ha n)
    have := h.mem.1
    omega

/-- The first step of a lane, from the start the kernel gives it: the column it will see first, at the least value. -/
theorem lane_start (g : ℕ → EReal) {a : ℕ} (ha : a < 32) (w i : BitVec 32) (hw : w.toNat = a) (hi : i.toNat = a) :
    Best g (SeenCols a 1) (if ⊥ < g a then g a else ⊥) (if ⊥ < g a then w else i).toNat := by
  have e : (if (⊥ : EReal) < g a then g a else ⊥) = g a := by
    split
    · rfl
    · next c => exact (not_bot_lt_iff.1 c).symm
  have e' : (if (⊥ : EReal) < g a then w else i).toNat = a := by split <;> assumption
  rw [e, e']
  refine (best_one g a).congr fun c => ?_
  unfold SeenCols; omega

theorem toNat_idxVec {n : ℕ} (h : n + 16 ≤ 32768) (l : S16.Idx) : (idxVec n l).toNat = n + (l 0).val := by
  have hl : (l 0).val < 16 := (l 0).isLt
  show (BitVec.ofNat 32 (n + (l 0).val)).toNat = _
  rw [BitVec.toNat_ofNat]; omega

/-- After a step each lane of each stream holds the best of the columns it has seen. -/
theorem scan_best (g : ℕ → Ideal .f32) (l : S16.Idx) : ∀ n, n < 1024 →
    Best g (SeenCols (l 0).val (n + 1)) ((scan g (n + 1)).1 l) ((scan g (n + 1)).2.1 l).toNat
      ∧ Best g (SeenCols ((l 0).val + 16) (n + 1)) ((scan g (n + 1)).2.2.1 l) ((scan g (n + 1)).2.2.2 l).toNat := by
  have hl : (l 0).val < 16 := (l 0).isLt
  have eq1 : ∀ n, (scan g (n + 1)).1 l = if ((scan g n).1 l : EReal) < g (32 * n + (l 0).val) then g (32 * n + (l 0).val) else (scan g n).1 l :=
    fun n => select_gt _ _ _ _
  have eq2 : ∀ n, (scan g (n + 1)).2.1 l = if ((scan g n).1 l : EReal) < g (32 * n + (l 0).val) then idxVec (32 * n) l else (scan g n).2.1 l :=
    fun n => select_gt _ _ _ _
  have eq3 : ∀ n, (scan g (n + 1)).2.2.1 l = if ((scan g n).2.2.1 l : EReal) < g (32 * n + 16 + (l 0).val) then g (32 * n + 16 + (l 0).val) else (scan g n).2.2.1 l :=
    fun n => select_gt _ _ _ _
  have eq4 : ∀ n, (scan g (n + 1)).2.2.2 l = if ((scan g n).2.2.1 l : EReal) < g (32 * n + 16 + (l 0).val) then idxVec (32 * n + 16) l else (scan g n).2.2.2 l :=
    fun n => select_gt _ _ _ _
  have hc : ∀ n, 32 * n + 16 + (l 0).val = 32 * n + ((l 0).val + 16) := fun n => by omega
  intro n
  induction n with
  | zero =>
    intro _
    rw [eq1, eq2, eq3, eq4, hc]
    have b1 : (scan g 0).1 l = (⊥ : EReal) := congrFun negInf l
    have b3 : (scan g 0).2.2.1 l = (⊥ : EReal) := congrFun negInf l
    rw [b1, b3]
    simp only [Nat.mul_zero, Nat.zero_add]
    refine ⟨lane_start g (by omega) _ _ ?_ ?_, lane_start g (by omega) _ _ ?_ ?_⟩
    · rw [toNat_idxVec (by omega)]; omega
    · show (iota .scVector S16 32 [0] iota_S16_d0_w32_scVector l).toNat = _
      rw [iota_single_apply, BitVec.toNat_ofNat]; omega
    · rw [toNat_idxVec (by omega)]; omega
    · show (iota .scVector S16 32 [0] iota_S16_d0_w32_scVector l + 16#32).toNat = _
      rw [iota_single_apply, BitVec.toNat_add, BitVec.toNat_ofNat, BitVec.toNat_ofNat]; omega
  | succ n ih =>
    intro hn
    have h := ih (by omega)
    rw [eq1, eq2, eq3, eq4, hc]
    exact ⟨lane_step (by omega) h.1 _ (toNat_idxVec (by omega) l),
      lane_step (by omega) h.2 _ (by rw [toNat_idxVec (by omega)]; omega)⟩

/-! ## The merges -/

/-- A lane of a merge of two pairs, each lane holding its best. -/
theorem merge_best {g : ℕ → EReal} {p q : Pair Ideal} (hp : InRow p.2) (hq : InRow q.2) (l : S16.Idx) {P Q : ℕ → Prop}
    (h : Best g P (p.1 l) (p.2 l).toNat) (h' : Best g Q (q.1 l) (q.2 l).toNat) :
    Best g (fun c => P c ∨ Q c) ((mergeP p q).1 l) ((mergeP p q).2 l).toNat := by
  have e1 : (mergeP p q).1 l = if (p.1 l : EReal) < q.1 l ∨ (q.1 l : EReal) = p.1 l ∧ (q.2 l).toNat < (p.2 l).toNat then q.1 l else p.1 l :=
    select_better _ _ (hp l) (hq l) _ _
  have e2 : (mergeP p q).2 l = if (p.1 l : EReal) < q.1 l ∨ (q.1 l : EReal) = p.1 l ∧ (q.2 l).toNat < (p.2 l).toNat then q.2 l else p.2 l :=
    select_better _ _ (hp l) (hq l) _ _
  rw [e1, e2]
  split
  · next c => exact h.merge_right h' c
  · next c => exact h.merge_left h' c

/-- What every lane holds before the step of `s`: the best of the columns congruent to the lane modulo `2 s`. -/
def Classes (g : ℕ → EReal) (s : ℕ) (p : Pair Ideal) : Prop :=
  InRow p.2 ∧ ∀ l : S16.Idx, Best g (fun c => c < 32768 ∧ c % s = (l 0).val % s) (p.1 l) (p.2 l).toNat

/-- An exchange step halves the modulus, where exchanging adds or takes away `s`. -/
theorem stage_classes {g : ℕ → EReal} {s : ℕ} (hs : 0 < s)
    (hx : ∀ l : Fin 16, ((l.val ^^^ s) % 16) % (2 * s) = (l.val + s) % (2 * s)) {p : Pair Ideal} (h : Classes g (2 * s) p) :
    Classes g s (stage s p) := by
  refine ⟨inRow_stage s h.1, fun l => ?_⟩
  refine (merge_best (p := p) (q := swapP s p) h.1 (fun l => h.1 _) l (h.2 l) (h.2 _)).congr fun c => ?_
  have hl : ((lane ⟨((l 0).val ^^^ s) % 16, Nat.mod_lt _ (by decide)⟩ : S16.Idx) 0).val % (2 * s) = ((l 0).val + s) % (2 * s) := hx (l 0)
  rw [hl, ← and_or_left]
  refine and_congr_right fun _ => ?_
  have hm : ∀ a : ℕ, a % (2 * s) = a % s ∨ a % (2 * s) = a % s + s := fun a => by
    rw [Nat.mul_comm 2 s, Nat.mod_mul]
    rcases Nat.mod_two_eq_zero_or_one (a / s) with e | e <;> rw [e] <;> simp
  have hms : ∀ a : ℕ, a % s < s := fun a => Nat.mod_lt _ hs
  have hmm : ∀ a : ℕ, a % (2 * s) % s = a % s := fun a => Nat.mod_mod_of_dvd a (Nat.dvd_mul_left s 2)
  constructor
  · intro e
    rcases hm c with ec | ec <;> rcases hm (l 0).val with el | el
    · left; rw [ec, el, e]
    · right
      rw [Nat.add_mod, el, ec, Nat.mod_eq_of_lt (show s < 2 * s by omega), e,
        show (l 0).val % s + s + s = (l 0).val % s + 2 * s by omega, Nat.add_mod_right,
        Nat.mod_eq_of_lt (show (l 0).val % s < 2 * s by have := hms (l 0).val; omega)]
    · right
      rw [Nat.add_mod, el, ec, Nat.mod_eq_of_lt (show s < 2 * s by omega), e,
        Nat.mod_eq_of_lt (show (l 0).val % s + s < 2 * s by have := hms (l 0).val; omega)]
    · left; rw [ec, el, e]
  · rintro (e | e)
    · rw [← hmm c, e, hmm]
    · rw [← hmm c, e, hmm, Nat.add_mod_right]

/-- The two streams merged: sixteen classes. -/
theorem streams_classes (g : ℕ → Ideal .f32) : Classes g 16 (streams (scan g 1024)) := by
  have hr := inRow_scan g 1024 le_rfl
  refine ⟨inRow_select hr.2 hr.1, fun l => ?_⟩
  have h := scan_best g l 1023 (by norm_num)
  refine (merge_best (p := ((scan g 1024).1, (scan g 1024).2.1)) (q := ((scan g 1024).2.2.1, (scan g 1024).2.2.2)) hr.1 hr.2 l h.1 h.2).congr fun c => ?_
  have hl : (l 0).val < 16 := (l 0).isLt
  unfold SeenCols; omega

/-- The picked column is the first place of the row's maximum. -/
theorem pick_best (g : ℕ → Ideal .f32) : ∃ v, Best g (fun c => c < 32768) v (pick g).toNat := by
  have h := stage_classes (s := 1) (by norm_num) (by decide) (stage_classes (s := 2) (by norm_num) (by decide)
    (stage_classes (s := 4) (by norm_num) (by decide) (stage_classes (s := 8) (by norm_num) (by decide) (streams_classes g))))
  exact ⟨_, (h.2 (lane 0)).congr fun c => by simp [Nat.mod_one]⟩

end Cert.Proof.Run
-- ==== Proof.TcValue.lean ====
/-
The TensorCore's two bodies over the extended reals: the word the first keeps for a row is the
first place of the row's maximum, and the second's rows are one at their word's column and zero
elsewhere.
-/
module

public import proofs.«01_k».proof.Proof.Regs
public import proofs.«01_k».proof.Proof.Winner
public import proofs.«01_k».proof.Proof.Halves

@[expose] public section

noncomputable section

namespace Cert.Proof.Run

open Cert.KernelIdeal Cert.KernelIdeal.Gen
open Cert.Proof.Order
open Idealize.ShloMosaic

/-! ## A fold of maxima, then a fold of minima -/

/-- A maximum folded over places bounds every place, and is the start or stands at a place. -/
theorem fold_max {ι : Type} [DecidableEq ι] (s : Finset ι) (u : ι → EReal) :
    (∀ k ∈ s, u k ≤ s.fold max ⊥ u) ∧ (s.fold max ⊥ u = ⊥ ∨ ∃ k ∈ s, u k = s.fold max ⊥ u) := by
  induction s using Finset.induction_on with
  | empty => exact ⟨by simp, .inl rfl⟩
  | insert a s ha ih =>
    rw [Finset.fold_insert ha]
    refine ⟨fun k hk => ?_, .inr ?_⟩
    · rcases Finset.mem_insert.1 hk with rfl | hk
      · exact le_max_left _ _
      · exact (ih.1 k hk).trans (le_max_right _ _)
    · rcases max_choice (u a) (s.fold max ⊥ u) with e | e
      · exact ⟨a, Finset.mem_insert_self _ _, e.symm⟩
      · rcases ih.2 with h | ⟨k, hk, h⟩
        · exact ⟨a, Finset.mem_insert_self _ _, by rw [h]; exact (max_bot_right _).symm⟩
        · exact ⟨k, Finset.mem_insert_of_mem hk, by rw [e]; exact h⟩

/-- The lesser of two words below the sign. -/
theorem toNat_minsi {x y : BitVec 32} (hx : x.toNat < 2 ^ 31) (hy : y.toNat < 2 ^ 31) :
    (IntOp.minsi x y).toNat = min x.toNat y.toNat := by
  unfold IntOp.minsi
  rw [BitVec.slt, WordCmp.toInt_eq_toNat_of_lt_half hx, WordCmp.toInt_eq_toNat_of_lt_half hy]
  simp only [Nat.cast_lt, decide_eq_true_eq]
  split <;> omega

/-- A minimum of words below the sign, folded over places: no place's word is less, and it is the start or a place's word. -/
theorem fold_minsi {ι : Type} [DecidableEq ι] (s : Finset ι) (a : BitVec 32) (f : ι → BitVec 32) (ha : a.toNat < 2 ^ 31)
    (hf : ∀ k, (f k).toNat < 2 ^ 31) :
    (s.fold IKind.minsi.op a f).toNat < 2 ^ 31 ∧ (∀ k ∈ s, (s.fold IKind.minsi.op a f).toNat ≤ (f k).toNat)
      ∧ ((s.fold IKind.minsi.op a f).toNat = a.toNat ∨ ∃ k ∈ s, (f k).toNat = (s.fold IKind.minsi.op a f).toNat) := by
  induction s using Finset.induction_on with
  | empty => exact ⟨ha, by simp, .inl rfl⟩
  | insert b s hb ih =>
    rw [Finset.fold_insert hb, show IKind.minsi.op (f b) (s.fold IKind.minsi.op a f) = IntOp.minsi (f b) (s.fold IKind.minsi.op a f) from rfl,
      toNat_minsi (hf b) ih.1]
    refine ⟨lt_of_le_of_lt (min_le_left _ _) (hf b), fun k hk => ?_, ?_⟩
    · rcases Finset.mem_insert.1 hk with rfl | hk
      · exact min_le_left _ _
      · exact (min_le_right _ _).trans (ih.2.1 k hk)
    · rcases min_choice (f b).toNat (s.fold IKind.minsi.op a f).toNat with e | e
      · exact .inr ⟨b, Finset.mem_insert_self _ _, e.symm⟩
      · rcases ih.2.2 with h | ⟨k, hk, h⟩
        · exact .inl (e.trans h)
        · exact .inr ⟨k, Finset.mem_insert_of_mem hk, h.trans e.symm⟩

/-- The least column at which the maximum stands, found by a fold of maxima and a fold of minima over
    the columns that hold it, any other column counting as 32768. -/
theorem best_of_folds (g : ℕ → EReal) (u : Fin 32768 → EReal) (hu : ∀ k, u k = g k.val) (f : Fin 32768 → BitVec 32)
    (hf : ∀ k, f k = if u k = Finset.univ.fold max ⊥ u then BitVec.ofNat 32 k.val else 32768#32) :
    Best g (fun c => c < 32768) (Finset.univ.fold max ⊥ u) (Finset.univ.fold IKind.minsi.op 2147483647#32 f).toNat := by
  obtain ⟨ub, at0⟩ := fold_max Finset.univ u
  have hn : ∀ k : Fin 32768, (BitVec.ofNat 32 k.val).toNat = k.val := fun k =>
    WordCmp.toNat_ofNat_of_lt (lt_trans k.isLt (by norm_num))
  have hit : ∃ k, u k = Finset.univ.fold max ⊥ u := by
    rcases at0 with h | ⟨k, -, h⟩
    · exact ⟨⟨0, by norm_num⟩, le_antisymm (ub _ (Finset.mem_univ _)) (h ▸ bot_le)⟩
    · exact ⟨k, h⟩
  generalize Finset.univ.fold max ⊥ u = M at *
  obtain ⟨k0, hk0⟩ := hit
  obtain ⟨-, lb, cases⟩ := fold_minsi Finset.univ 2147483647#32 f (by decide) (fun k => by
    rw [hf]; split
    · rw [hn]; exact lt_trans k.isLt (by norm_num)
    · decide)
  have l0 : (Finset.univ.fold IKind.minsi.op 2147483647#32 f).toNat ≤ k0.val := by
    have := lb k0 (Finset.mem_univ _)
    rwa [hf, if_pos hk0, hn] at this
  have hk0' := k0.isLt
  rcases cases with h | ⟨k, -, h⟩
  · have : (2147483647#32 : BitVec 32).toNat = 2147483647 := by decide
    omega
  · rw [hf] at h
    by_cases hk : u k = M
    · rw [if_pos hk, hn] at h
      rw [← h] at lb ⊢
      refine ⟨k.isLt, by rw [← hu, hk], fun j hj => ?_, fun j hj e => ?_⟩
      · exact hu ⟨j, hj⟩ ▸ ub ⟨j, hj⟩ (Finset.mem_univ _)
      · have := lb ⟨j, hj⟩ (Finset.mem_univ _)
        rw [hf, if_pos ((hu ⟨j, hj⟩).trans e), hn] at this
        exact this
    · rw [if_neg hk] at h
      have : (32768#32 : BitVec 32).toNat = 32768 := by decide
      omega

/-! ## The first body -/

/-- Row `n`, as an index of the words of the rows. -/
def wordIx (n : Fin 96) : S96.Idx := fun a => ⟨n.val, by fin_cases a; exact n.isLt⟩

/-- The block's row `r` at column `k`. -/
abbrev rowAt (r : S96.Idx) (k : Fin 32768) : S96x32768.Idx := reduces_S96x32768_S96.lift r k

theorem rowAt_row (r : S96.Idx) (k : Fin 32768) : (rowAt r k 0).val = (r 0).val := rfl
theorem rowAt_col (r : S96.Idx) (k : Fin 32768) : (rowAt r k 1).val = k.val := rfl

/-- The first body's maximum of each row. -/
def rowMax (X : S96x32768.Idx → Ideal .f32) : FVec Ideal S96 .f32 :=
  multiReduction .maximumf [1] S96 X 0xFF800000#32 reduces_S96x32768_S96 (.inl rfl) rfl

theorem rowMax_eq (X : S96x32768.Idx → Ideal .f32) (n : Fin 96) :
    rowMax X (wordIx n) = (Finset.univ : Finset (Fin 32768)).fold max (⊥ : EReal) (fun k => X (rowAt (wordIx n) k)) := by
  have hb : (FloatOps.ofBits .f32 (FKind.maximumf.neutral .f32 (.inl rfl)) : Ideal .f32) = (⊥ : EReal) := by
    show Ideal.ofBits .f32 0xFF800000#32 = ⊥
    simp [Ideal.ofBits, Ideal.ieee]
  refine (Ideal.multiReduction_maximumf_single X _ reduces_S96x32768_S96 (.inl rfl) rfl _).trans ?_
  rw [hb]
  rfl

/-- Its columns where the row's maximum stands, 32768 elsewhere. -/
def held (X : S96x32768.Idx → Ideal .f32) : IVec S96x32768 32 :=
  select (cmpf .oeq X (broadcastTo S96x32768 (shapeCast S96x1 (rowMax X) shapeCasts_S96_S96x1) broadcasts_S96x1_S96x32768))
    (iota .tc S96x32768 32 [1] iota_S96x32768_d1_w32) (broadcast S96x32768 32768#32)

/-- A word for each row, spread over the row's columns. -/
theorem spread {α : Type} (w : S96.Idx → α) (j : S96x32768.Idx) :
    broadcastTo S96x32768 (shapeCast S96x1 w shapeCasts_S96_S96x1) broadcasts_S96x1_S96x32768 j = w (wordIx (j 0)) := by
  refine shapeCast_apply _ shapeCasts_S96_S96x1 _ (wordIx (j 0)) ?_
  rw [Shape.rowMajor_val_one, Shape.rowMajor_val_two]
  show (j 0).val = _
  simp

theorem held_apply (X : S96x32768.Idx → Ideal .f32) (n : Fin 96) (k : Fin 32768) :
    held X (rowAt (wordIx n) k) = if (X (rowAt (wordIx n) k) : EReal) = rowMax X (wordIx n) then BitVec.ofNat 32 k.val else 32768#32 := by
  have eb := spread (rowMax X) (rowAt (wordIx n) k)
  show Scalar.select (BitVec.ofBool (decide ((X (rowAt (wordIx n) k) : EReal) = broadcastTo S96x32768 _ _ (rowAt (wordIx n) k))))
    (BitVec.ofNat 32 (0 * 32768 + k.val)) 32768#32 = _
  rw [eb, select_ofBool, Nat.zero_mul, Nat.zero_add]
  simp only [decide_eq_true_eq]
  rfl

/-- A row's word: the least of what is held over the row. -/
theorem word_eq (X : S96x32768.Idx → Ideal .f32) (n : Fin 96) :
    wordAt (F := Ideal) (k1_pay1 (F := Ideal) X) n
      = (Finset.univ : Finset (Fin 32768)).fold IKind.minsi.op 2147483647#32 (fun k => held X (rowAt (wordIx n) k)) := by
  have e : wordAt (F := Ideal) (k1_pay1 (F := Ideal) X) n
      = multiReductionI .minsi [1] S96 (held X) 2147483647#32 reduces_S96x32768_S96 rfl (wordIx n) := by
    unfold wordAt k1_pay1
    refine shapeCast_apply _ _ _ _ ?_
    rw [Shape.rowMajor_val_one, Shape.rowMajor_val_three]
    show n.val = _
    have := n.isLt
    simp
    omega
  refine e.trans ((multiReductionI_eq_fold _ _ _ _ _ _).trans ?_)
  exact reduces_S96x32768_S96.fold_filter_drop_single _ _ _ _

/-- Row `n`'s word is the first place of the row's maximum. -/
theorem word_best (X : S128x32768.Idx → Ideal .f32) (n : Fin 96) :
    ∃ v, Best (fun c => X (ix n.val c)) (fun c => c < 32768) v (wordAt (F := Ideal) (k1_pay1 (F := Ideal) (topRows (F := Ideal) X)) n).toNat := by
  rw [word_eq]
  refine ⟨_, best_of_folds _ (fun k => topRows (F := Ideal) X (rowAt (wordIx n) k)) (fun k => ?_) _ (fun k => ?_)⟩
  · refine congrArg X (funext fun a => Fin.ext ?_)
    fin_cases a
    · exact (ix_row (lt_trans n.isLt (by norm_num))).symm
    · exact (ix_col k.isLt).symm
  · rw [held_apply, rowMax_eq]

/-! ## The second body -/

theorem one_eq : (oneW : Ideal .f32) = (1 : EReal) := by
  show Ideal.ofBits .f32 0x3F800000#32 = 1
  simp [Ideal.ofBits, Ideal.ieee, -EReal.coe_mul]
  norm_num

theorem zero_eq : (zeroW : Ideal .f32) = (0 : EReal) := Ideal.ofBits_zero_f32

/-- The second body's rows. -/
theorem hotRows_apply (I : S1x1x96.Idx → BitVec 32) (j : S96x32768.Idx) :
    hotRows (F := Ideal) I j = if (j 1).val = (wordAt (F := Ideal) I (j 0)).toNat then oneW (F := Ideal) else zeroW (F := Ideal) := by
  have eb := spread (fun j : S96.Idx => wordAt (F := Ideal) I (j 0)) j
  show FloatOps.sitofp .f32 (BitVec.setWidth 32 (BitVec.ofBool (BitVec.ofNat 32 (0 * 32768 + (j 1).val)
    == broadcastTo S96x32768 (shapeCast S96x1 (fun j : S96.Idx => wordAt (F := Ideal) I (j 0)) shapeCasts_S96_S96x1) broadcasts_S96x1_S96x32768 j))) = _
  rw [eb, one_eq, zero_eq, show wordIx (j 0) 0 = j 0 from rfl]
  have hj : (j 1).val < 2 ^ 32 := lt_trans (j 1).isLt (by norm_num)
  have hw : (BitVec.ofNat 32 (0 * 32768 + (j 1).val) == wordAt (F := Ideal) I (j 0)) = decide ((j 1).val = (wordAt (F := Ideal) I (j 0)).toNat) := by
    rw [Nat.zero_mul, Nat.zero_add, Bool.eq_iff_iff, beq_iff_eq, decide_eq_true_eq, ← BitVec.toNat_inj, BitVec.toNat_ofNat, Nat.mod_eq_of_lt hj]
  rw [hw]
  by_cases h : (j 1).val = (wordAt (F := Ideal) I (j 0)).toNat
  · rw [if_pos h, decide_eq_true h]
    show (((1#32 : BitVec 32).toInt : ℝ) : EReal) = 1
    rw [show (1#32 : BitVec 32).toInt = 1 by decide]
    simp
  · rw [if_neg h, decide_eq_false h]
    show (((0#32 : BitVec 32).toInt : ℝ) : EReal) = 0
    rw [show (0#32 : BitVec 32).toInt = 0 by decide]
    simp

end Cert.Proof.Run
-- ==== Proof.RefValue.lean ====
/-
The reference's result over the extended reals: the row-wise argmax is the first place of the row's
maximum, and the scatter leaves one there and zero elsewhere in the row.
-/
module

public import proofs.«01_k».proof.Proof.Ref
public import proofs.«01_k».proof.Proof.Winner
public import proofs.«01_k».proof.Proof.Zero
public import Idealize.ShloMosaic.Lib.Routing.OpsPair
public import Idealize.ShloMosaic.Lib.Routing.OpsSet
public import Idealize.ShloMosaic.Lib.Pipeline.Value

@[expose] public section

noncomputable section

namespace Cert.Proof.Ref

open Cert.ReferenceIdeal Cert.ReferenceIdeal.Gen
open Cert.Proof.Order Cert.Proof.Run
open Idealize.ShloMosaic Idealize.ShloMosaic.Routing

/-! ## The argmax -/

/-- The reduction's step: the greater value, and of two equal ones the lesser place. -/
theorem reducer_apply (v w : Ideal .f32) {i j : BitVec 32} (hi : i.toNat < 32768) (hj : j.toNat < 32768) :
    reducer_argmax_f32_i32 (F := Ideal) (v, i) (w, j)
      = (if (w : EReal) < v then v else w, if (w : EReal) < v ∨ (v : EReal) = w ∧ i.toNat < j.toNat then i else j) := by
  show (Scalar.select (BitVec.ofBool (decide ((w : EReal) < v)) ||| BitVec.ofBool (decide ((v : EReal) ≠ v))) v w,
    Scalar.select ((BitVec.ofBool (decide ((w : EReal) < v)) ||| BitVec.ofBool (decide ((v : EReal) ≠ v)))
      ||| (BitVec.ofBool (decide ((v : EReal) = w)) &&& BitVec.ofBool (i.slt j))) i j) = _
  have hv : decide ((v : EReal) ≠ v) = false := decide_eq_false (fun h => h rfl)
  have h0 : ∀ b : Bool, BitVec.ofBool b ||| BitVec.ofBool false = BitVec.ofBool b := by decide
  rw [hv, h0, slt_cols hi hj, bits, select_ofBool, select_ofBool]
  simp only [Bool.or_eq_true, Bool.and_eq_true, decide_eq_true_eq]

/-- The fold of the step over a list of values, each with its place, from any state. -/
theorem fold_seen (g : ℕ → Ideal .f32) (l : List (Ideal .f32 × BitVec 32)) (hl : ∀ p ∈ l, p.1 = g p.2.toNat ∧ p.2.toNat < 32768) :
    ∀ (P : ℕ → Prop) (a : Ideal .f32 × BitVec 32), Seen g P a.1 a.2.toNat → a.2.toNat < 32768 →
      Seen g (fun k => P k ∨ ∃ p ∈ l, k = p.2.toNat) (l.foldl (reducer_argmax_f32_i32 (F := Ideal)) a).1
        (l.foldl (reducer_argmax_f32_i32 (F := Ideal)) a).2.toNat := by
  induction l with
  | nil => intro P a h _; exact h.congr fun n => by simp
  | cons p l ih =>
    intro P a h ha
    obtain ⟨hp, hc⟩ := hl p List.mem_cons_self
    obtain ⟨v, i⟩ := a
    obtain ⟨w, j⟩ := p
    simp only at h ha hp hc
    rw [List.foldl_cons, reducer_apply v w ha hc]
    have step : Seen g (fun k => P k ∨ k = j.toNat) (if (w : EReal) < v then v else w)
        (if (w : EReal) < v ∨ (v : EReal) = w ∧ i.toNat < j.toNat then i else j).toNat
        ∧ (if (w : EReal) < v ∨ (v : EReal) = w ∧ i.toNat < j.toNat then i else j).toNat < 32768 := by
      by_cases c : (w : EReal) < v ∨ (v : EReal) = w ∧ i.toNat < j.toNat
      · rw [if_pos c]
        refine ⟨?_, ha⟩
        have e : (if (w : EReal) < v then v else w) = v := by
          split
          · rfl
          · next n => exact (c.resolve_left n).1.symm
        rw [e]
        exact h.keep _ (c.imp (fun c => hp ▸ c) fun c => ⟨by rw [← hp]; exact c.1.symm, c.2⟩)
      · rw [if_neg c, if_neg fun h => c (.inl h), hp]
        refine ⟨h.take _ ?_, hc⟩
        rw [← hp]
        rcases lt_trichotomy (v : EReal) w with q | q | q
        · exact .inl q
        · exact .inr ⟨q.symm, not_lt.1 fun z => c (.inr ⟨q, z⟩)⟩
        · exact absurd (.inl q) c
    refine (ih (fun q hq => hl q (List.mem_cons_of_mem _ hq)) _ (_, _) step.1 step.2).congr fun n => ?_
    simp [or_assoc]

/-- The pairs a reduction meets at a result's index: those of the indices that drop to it. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i : s.Idx, h.drop i = j ∧ p = (x i, y i) := by
  unfold Host.argReduceFiber
  constructor
  · intro hp
    obtain ⟨n, hn, rfl⟩ := List.mem_map.1 hp
    exact ⟨_, by simpa using (List.mem_filter.1 hn).2, rfl⟩
  · rintro ⟨i, hi, rfl⟩
    refine List.mem_map.2 ⟨s.rowMajor i, List.mem_filter.2 ⟨List.mem_finRange _, ?_⟩, ?_⟩
    · rw [Equiv.symm_apply_apply]; simpa using hi
    · rw [Equiv.symm_apply_apply]

/-- The pairs of row `r`. -/
theorem mem_row (x : S128x32768.Idx → Ideal .f32) (j : S128.Idx) (p : Ideal .f32 × BitVec 32) :
    p ∈ Host.argReduceFiber x (iotaInDim S128x32768 32 1) reducesTo_S128x32768_S128_d1 j
      ↔ ∃ c, c < 32768 ∧ p = (x (ix (j 0).val c), BitVec.ofNat 32 c) := by
  have hd : ∀ i : S128x32768.Idx, (reducesTo_S128x32768_S128_d1.drop i 0).val = (i 0).val := fun i =>
    reducesTo_S128x32768_S128_d1.drop_apply_val_of_eq i 0 0
  rw [mem_fiber]
  constructor
  · rintro ⟨i, hi, rfl⟩
    refine ⟨(i 1).val, (i 1).isLt, Prod.ext (congrArg x (funext fun a => Fin.ext ?_)) rfl⟩
    fin_cases a
    · exact ((hd i).symm.trans (by rw [hi])).trans (ix_row (j 0).isLt).symm
    · exact (ix_col (i 1).isLt).symm
  · rintro ⟨c, hc, rfl⟩
    refine ⟨ix (j 0).val c, funext fun a => Fin.ext ?_, Prod.ext rfl ?_⟩
    · fin_cases a
      exact (hd _).trans (ix_row (j 0).isLt)
    · exact congrArg (BitVec.ofNat 32) (ix_col hc).symm

/-- A reduction of values with their places, as a fold over the pairs it meets. -/
theorem argReduce_fold {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel) (j : t.Idx)
    (a : Ideal .f32) (b : β) (ha : ∀ i, ix i = a) (hb : ∀ i, iy i = b) :
    Host.argReduce f x y ix iy h hu j = (Host.argReduceFiber x y h j).foldl f (a, b) := by
  rw [Ideal.argReduce_eq_reduce2, Host.reduce2_eq_foldl_fiber, ha, hb]

theorem least_eq : (FloatOps.ofBits .f32 0xFF800000#32 : Ideal .f32) = (⊥ : EReal) := by
  show Ideal.ofBits .f32 0xFF800000#32 = ⊥
  simp [Ideal.ofBits, Ideal.ieee]

theorem argReduce_snd {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel) (j : t.Idx)
    (a : Ideal .f32) (b : β) (ha : ∀ i, ix i = a) (hb : ∀ i, iy i = b) :
    (Host.argReduce f x y ix iy h hu j).2 = ((Host.argReduceFiber x y h j).foldl f (a, b)).2 := by
  rw [argReduce_fold f x y ix iy h hu j a b ha hb]

theorem winners_fun (x : S128x32768.Idx → Ideal .f32) :
    winners (F := Ideal) x = fun j => (Host.argReduce reducer_argmax_f32_i32 x (iotaInDim S128x32768 32 1) (constant S_ .f32 0xFF800000#32)
      (constantI S_ 32 0#32) reducesTo_S128x32768_S128_d1 h_S_ j).2 := rfl

theorem winners_eq (x : S128x32768.Idx → Ideal .f32) (j : S128.Idx) (a : Ideal .f32) (b : BitVec 32)
    (ha : ∀ i, constant (F := Ideal) S_ .f32 0xFF800000#32 i = a) (hb : ∀ i, constantI S_ 32 0#32 i = b) :
    winners (F := Ideal) x j = ((Host.argReduceFiber x (iotaInDim S128x32768 32 1) reducesTo_S128x32768_S128_d1 j).foldl
      (reducer_argmax_f32_i32 (F := Ideal)) (a, b)).2 :=
  (congrFun (winners_fun x) j).trans (argReduce_snd (reducer_argmax_f32_i32 (F := Ideal)) x (iotaInDim S128x32768 32 1)
    (constant S_ .f32 0xFF800000#32) (constantI S_ 32 0#32) reducesTo_S128x32768_S128_d1 h_S_ j a b ha hb)

/-- Row `r`'s winner is the first place of the row's maximum. -/
theorem winner_best (x : S128x32768.Idx → Ideal .f32) (j : S128.Idx) :
    ∃ v, Best (fun c => x (ix (j 0).val c)) (fun c => c < 32768) v (winners (F := Ideal) x j).toNat := by
  have hn : ∀ c, c < 32768 → (BitVec.ofNat 32 c).toNat = c := fun c hc => WordCmp.toNat_ofNat_of_lt (lt_trans hc (by norm_num))
  rw [winners_eq x j (⊥ : EReal) 0#32 (fun _ => least_eq) (fun _ => rfl)]
  have mem := mem_row x j
  generalize Host.argReduceFiber x (iotaInDim S128x32768 32 1) reducesTo_S128x32768_S128_d1 j = l at mem ⊢
  have key := fold_seen (fun c => x (ix (j 0).val c)) l (fun p hp => by
    obtain ⟨c, hc, rfl⟩ := (mem p).1 hp
    exact ⟨by rw [hn c hc], by rw [hn c hc]; exact hc⟩) (fun _ => False) ((⊥ : EReal), 0#32) (seen_none _) (by decide)
  refine ⟨_, (key.congr (Q := fun k => k < 32768) fun k => ⟨fun hk => .inr ⟨_, (mem _).2 ⟨k, hk, rfl⟩, (hn k hk).symm⟩, ?_⟩).best (by norm_num)⟩
  rintro (h | ⟨p, hp, rfl⟩)
  · exact h.elim
  · obtain ⟨c, hc, rfl⟩ := (mem p).1 hp
    show (BitVec.ofNat 32 c).toNat < 32768
    rw [hn c hc]; exact hc

/-! ## The scatter -/

/-- An index that is not negative is kept. -/
theorem wrapped_of_lt (w : S128.Idx → BitVec 32) (n : BitVec 32) (j : S128.Idx) (h : (w j).toNat < 32768) : wrapped w n j = w j :=
  wrap_of_lt (w j) (w j + n) (lt_trans h (by norm_num))

theorem pairs_row (w : S128.Idx → BitVec 32) (j : S128x2.Idx) (k : S128.Idx) (h0 : (j 0).val = (k 0).val) (h1 : (j 1).val = 0) :
    pairs w j = BitVec.ofNat 32 (k 0).val := by
  unfold pairs
  refine (concatenate_pair_apply_left 1 _ _ concatenates_S128x1_S128x1_S128x2_d1 j rfl
    (fun b => if h : b = 0 then ⟨(k 0).val, by subst h; exact (k 0).isLt⟩ else ⟨0, by fin_cases b; exact absurd rfl h; decide⟩) ?_).trans ?_
  · intro b
    fin_cases b
    · exact h0.symm
    · exact h1.symm
  · have e : (fun a : Fin 1 => k a) = k := rfl
    refine (show _ = wrapped (iotaInDim S128 32 0) 128#32 k from ?_).trans (wrapped_of_lt _ _ _ ?_)
    · refine congrArg (wrapped (iotaInDim S128 32 0) 128#32) (funext fun a => Fin.ext ?_)
      fin_cases a
      rfl
    · show (BitVec.ofNat 32 (k 0).val).toNat < 32768
      have hk : (k 0).val < 128 := (k 0).isLt
      rw [WordCmp.toNat_ofNat_of_lt (by omega)]
      omega

theorem pairs_col (w : S128.Idx → BitVec 32) (j : S128x2.Idx) (k : S128.Idx) (h0 : (j 0).val = (k 0).val) (h1 : (j 1).val = 1)
    (h : (w k).toNat < 32768) : pairs w j = w k := by
  unfold pairs
  refine (concatenate_pair_apply_right 1 _ _ concatenates_S128x1_S128x1_S128x2_d1 j rfl rfl
    (fun b => if h : b = 0 then ⟨(k 0).val, by subst h; exact (k 0).isLt⟩ else ⟨0, by fin_cases b; exact absurd rfl h; decide⟩) ?_ ?_).trans ?_
  · intro b hb
    fin_cases b
    · exact h0.symm
    · exact absurd rfl hb
  · exact h1.symm
  · refine (show _ = wrapped w 32768#32 k from ?_).trans (wrapped_of_lt _ _ _ h)
    refine congrArg (wrapped w 32768#32) (funext fun a => Fin.ext ?_)
    fin_cases a
    rfl

/-- The scatter's dimensions. -/
abbrev dims : ScatterDims S128x32768 S128x2 S128 := scatter_S128x32768_S128x2_S128_n_01_01_1

theorem window_zero (k : S128.Idx) (a : Fin 2) : dims.window k a = 0 := by
  fin_cases a <;> rfl

theorem start_row (w : S128.Idx → BitVec 32) (k : S128.Idx) : dims.start k (pairs w) 0 = ((k 0).val : Int) := by
  have hk : (k 0).val < 128 := (k 0).isLt
  unfold ScatterDims.start
  rw [dif_pos (by decide), pairs_row w _ k rfl rfl, WordCmp.toInt_eq_toNat_of_lt_half, WordCmp.toNat_ofNat_of_lt (by omega)]
  rw [WordCmp.toNat_ofNat_of_lt (by omega)]
  norm_num; omega

theorem start_col (w : S128.Idx → BitVec 32) (k : S128.Idx) (h : (w k).toNat < 32768) : dims.start k (pairs w) 1 = ((w k).toNat : Int) := by
  unfold ScatterDims.start
  rw [dif_pos (by decide), pairs_col w _ k rfl rfl h, WordCmp.toInt_eq_toNat_of_lt_half]
  norm_num; omega

/-- The update of row `r` lands at the row's winner and nowhere else. -/
theorem lands (w : S128.Idx → BitVec 32) (k : S128.Idx) (h : (w k).toNat < 32768) (i : S128x32768.Idx) :
    dims.resultIdx? k (pairs w) = some i ↔ (k 0).val = (i 0).val ∧ (w k).toNat = (i 1).val := by
  rw [resultIdx?_eq_some]
  constructor
  · intro q
    have q0 := q 0
    have q1 := q 1
    rw [start_row, window_zero] at q0
    rw [start_col w k h, window_zero] at q1
    exact ⟨by omega, by omega⟩
  · rintro ⟨q0, q1⟩ a
    rw [window_zero]
    fin_cases a
    · rw [show dims.start k (pairs w) ((fun i => i) ⟨0, by decide⟩) = _ from start_row w k]
      show ((k 0).val : Int) + _ = ((i 0).val : Int)
      omega
    · rw [show dims.start k (pairs w) ((fun i => i) ⟨1, by decide⟩) = _ from start_col w k h]
      show ((w k).toNat : Int) + _ = ((i 1).val : Int)
      omega

/-- The row an index lies in. -/
def rowOf (i : S128x32768.Idx) : S128.Idx := fun a => ⟨(i 0).val, by fin_cases a; exact (i 0).isLt⟩

/-- The result: one at each row's winner, zero elsewhere. -/
theorem out_apply (x : S128x32768.Idx → Ideal .f32) (i : S128x32768.Idx) :
    out (F := Ideal) x i = if (i 1).val = (winners (F := Ideal) x (rowOf i)).toNat then oneW (F := Ideal) else zeroW (F := Ideal) := by
  have small : ∀ k, (winners (F := Ideal) x k).toNat < 32768 := fun k => by
    obtain ⟨_, h⟩ := winner_best x k
    exact h.mem
  have hrow : ∀ k : S128.Idx, (k 0).val = (i 0).val → k = rowOf i := fun k hk => funext fun a => Fin.ext (by fin_cases a; exact hk)
  unfold out
  split
  · next h =>
    exact scatter_set_hit dims _ _ _ i _ (fun _ _ => rfl) (rowOf i) ((lands _ _ (small _) i).2 ⟨rfl, h.symm⟩)
  · next h =>
    refine (scatter_set_miss dims _ _ _ i fun k hk => ?_).trans rfl
    obtain ⟨h0, h1⟩ := (lands _ k (small k) i).1 hk
    exact h (by rw [← hrow k h0]; exact h1.symm)

end Cert.Proof.Ref
-- ==== Proof.Equal.lean ====
/-
Kernel and reference compute the same array over the extended reals: in every row both put one at
the first place of the row's maximum and zero elsewhere.
-/
module

public import proofs.«01_k».proof.Proof.Whole
public import proofs.«01_k».proof.Proof.TcValue
public import proofs.«01_k».proof.Proof.RefValue

@[expose] public section

noncomputable section

namespace Cert.Proof

open Cert.KernelIdeal Cert.KernelIdeal.Gen
open Cert.Proof.Order
open Idealize.ShloMosaic Idealize.SL.Sem

/-- The array the kernel leaves, and the reference's. -/
theorem same_array (x s : S128x32768.Idx → Ideal .f32) :
    Run.overRows (F := Ideal) (Run.tiled x s) (Run.hotRows (F := Ideal) (k1_pay1 (F := Ideal) (Run.topRows (F := Ideal) x))) = Ref.out (F := Ideal) x := by
  funext i
  rw [Ref.out_apply]
  obtain ⟨_, hb⟩ := Ref.winner_best x (Ref.rowOf i)
  unfold Run.overRows
  by_cases h : (i 0).val < 96
  · rw [dif_pos h, Run.hotRows_apply]
    obtain ⟨_, hk⟩ := Run.word_best x ⟨(i 0).val, h⟩
    have e := hk.unique hb
    exact if_congr (by rw [← e]; exact Iff.rfl) rfl rfl
  · rw [dif_neg h]
    unfold Run.tiled
    rw [if_pos (not_lt.1 h)]
    obtain ⟨_, hk⟩ := Run.pick_best fun n => x (Run.ix (i 0).val n)
    have e := hk.unique hb
    unfold Run.hot
    rw [e]

/-- The result the kernel's run ends with is the reference's of the argument. -/
theorem result_eq (m : (ℓ : Loc nD τ sig) → Buf (Elt Ideal) ℓ) (d : Dev nD) : Run.oOut m d = Ref.out (F := Ideal) (m (Run.xLoc d)) :=
  same_array (m (Run.xLoc d)) (m (Run.sLoc d))

/-- Over the extended reals the kernel and the reference, on the same argument, end with the same result. -/
theorem algebraic : Cert.algebraic_KernelIdeal_ReferenceIdeal := by
  intro m g m' g' _ hagree
  refine ⟨fun c => Run.oOut m c, ?_, ?_⟩
  · refine (θ_run _ _ _).mono (fun _ h c => ?_) (Run.run_main m g)
    exact ⟨(h.1 c).2, (h.1 c).1⟩
  · refine (θ_run _ _ _).mono (fun _ h c => ?_) (Ref.run_out m' g')
    refine ⟨(h c).1.trans ?_, (h c).2⟩
    refine Eq.trans ?_ (result_eq m c).symm
    exact congrArg (Ref.out (F := Ideal)) (hagree c)

end Cert.Proof
-- ==== Proof.lean ====
/-
The certificate's claim, assembled from the modules under Proof/.
-/
module

public import proofs.«01_k».proof.Defs
public import proofs.«01_k».proof.Proof.Frames
public import proofs.«01_k».proof.Proof.Ref
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Run.frame_kernel, Run.frame_ideal, Ref.frame, trivial, algebraic⟩

end Cert.Proof

end
